-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_separable [hKernelIdeal : Cert.KernelIdeal.Facts] [hReferenceIdeal : Cert.ReferenceIdeal.Facts] [hOn_separable : Cert.On_separable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_arg0) i = v0 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_arg1) i = v1 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_arg2) i = v2 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_arg3) i = v3 c i)
          ∧ (∀ i : (⟨2, ![1024, 10]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v1) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_arg0) i = v0 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_arg1) i = v1 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_arg2) i = v2 c i)
          ∧ (∀ i : (⟨2, ![1024, 64]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_arg3) i = v3 c i)
          ∧ (∀ i : (⟨2, ![1024, 10]⟩ : Shape).Idx, (Cert.On_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_indices) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_separable : Cert.On_separable.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separable (hKernelIdeal := hKernelIdeal) (hReferenceIdeal := hReferenceIdeal) (hOn_separable := hOn_separable)
-- ==== On_separable.lean ====
abbrev S1024x64 : Shape := ⟨2, ![1024, 64]⟩
abbrev S100000x256 : Shape := ⟨2, ![100000, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x100000 : Shape := ⟨2, ![1024, 100000]⟩
abbrev S256x100000 : Shape := ⟨2, ![256, 100000]⟩
abbrev S1024x10 : Shape := ⟨2, ![1024, 10]⟩
abbrev S1024x10x1 : Shape := ⟨3, ![1024, 10, 1]⟩
abbrev S1024x1x10 : Shape := ⟨3, ![1024, 1, 10]⟩
abbrev S1024x10x10 : Shape := ⟨3, ![1024, 10, 10]⟩

class Facts : Prop where
  concatenates_S1024x64_S1024x64_S1024x64_S1024x64_S1024x256_d1 : Shape.Concatenates [S1024x64, S1024x64, S1024x64, S1024x64] S1024x256 1
  reducesTo_S1024x256_S1024_d1 : S1024x256.ReducesTo [1] S1024
  h_S_ : 0 < S_.numel
  bcast_S1024_S1024x1_0 : S1024.BroadcastsInDim S1024x1 (![0] : Fin 1 → Fin S1024x1.rank)
  reducesTo_S100000x256_S100000_d1 : S100000x256.ReducesTo [1] S100000
  bcast_S100000_S100000x1_0 : S100000.BroadcastsInDim S100000x1 (![0] : Fin 1 → Fin S100000x1.rank)
  transposes_S100000x1_S1x100000_1_0 : S100000x1.Transposes [1, 0] S1x100000
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x256_S256x100000_1_0 : S100000x256.Transposes [1, 0] S256x100000
  bcast_S_S1024x100000 : S_.BroadcastsInDim S1024x100000 (![] : Fin 0 → Fin S1024x100000.rank)
  sliceFits_S1024x100000_S1024x10 : S1024x100000.Slices (fun _ => 0) S1024x10
  bcast_S_S1024x10 : S_.BroadcastsInDim S1024x10 (![] : Fin 0 → Fin S1024x10.rank)
  bcast_S1024x10_S1024x10x1_0_1 : S1024x10.BroadcastsInDim S1024x10x1 (![0, 1] : Fin 2 → Fin S1024x10x1.rank)
  bcast_S1024x10_S1024x1x10_0_2 : S1024x10.BroadcastsInDim S1024x1x10 (![0, 2] : Fin 2 → Fin S1024x1x10.rank)
  bcast_S1024x10x1_S1024x10x10_0_1_2 : S1024x10x1.BroadcastsInDim S1024x10x10 (![0, 1, 2] : Fin 3 → Fin S1024x10x10.rank)
  bcast_S1024x1x10_S1024x10x10_0_1_2 : S1024x1x10.BroadcastsInDim S1024x10x10 (![0, 1, 2] : Fin 3 → Fin S1024x10x10.rank)
  natLt_1_32 : 1 < 32
  reducesTo_S1024x10x10_S1024x10_d2 : S1024x10x10.ReducesTo [2] S1024x10
  reducesTo_S1024x10_S1024_d1 : S1024x10.ReducesTo [1] S1024
  bcast_S_S1024x64 : S_.BroadcastsInDim S1024x64 (![] : Fin 0 → Fin S1024x64.rank)
  bcast_S1024x1_S1024x10_0_1 : S1024x1.BroadcastsInDim S1024x10 (![0, 1] : Fin 2 → Fin S1024x10.rank)
  dot_S1024x256_S256x100000_S1024x100000_1_0_0_1_n_n_wf : DotDims.WF S1024x256 S256x100000 S1024x100000 [1] [0] [0] [1] [] []

variable [Facts]

def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf
def fn_part1 {F : FTy → Type} [FloatOps F] (main_values : FVec F S1024x10 .f32) (main_indices : IVec S1024x10 32) (main_v17 : IVec S1024x10 32) : IVec S1024x64 1 × IVec S1024x64 1 × IVec S1024x64 1 × IVec S1024x64 1 × IVec S1024x10 1 :=
  let main_v18 : IVec S1024x10 32 := Host.remsi main_indices main_v17
  let main_v19 : IVec S1024x10x1 32 := broadcastInDim S1024x10x1 ![0, 1] bcast_S1024x10_S1024x10x1_0_1 main_v18
  let main_v20 : IVec S1024x1x10 32 := broadcastInDim S1024x1x10 ![0, 2] bcast_S1024x10_S1024x1x10_0_2 main_v18
  let main_v21 : IVec S1024x10x10 32 := broadcastInDim S1024x10x10 ![0, 1, 2] bcast_S1024x10x1_S1024x10x10_0_1_2 main_v19
  let main_v22 : IVec S1024x10x10 32 := broadcastInDim S1024x10x10 ![0, 1, 2] bcast_S1024x1x10_S1024x10x10_0_1_2 main_v20
  let main_v23 : IVec S1024x10x10 1 := cmpi .eq main_v21 main_v22
  let main_v24 : IVec S1024x10x10 32 := (extui 32 · natLt_1_32) main_v23
  let main_c_2 : IVec S_ 32 := constantI S_ 32 0#32
  let main_v25 : IVec S1024x10 32 := (fun x v => Host.reduce IntOp.addi x v reducesTo_S1024x10x10_S1024x10_d2 h_S_) main_v24 main_c_2
  let main_c_3 : IVec S_ 32 := constantI S_ 32 4#32
  let main_v26 : IVec S1024x10 32 := broadcastInDim S1024x10 ![] bcast_S_S1024x10 main_c_3
  let main_v27 : IVec S1024x10 1 := cmpi .sle main_v25 main_v26
  let main_cst_4 : FVec F S_ .f32 := constant S_ .f32 0xFF800000#32
  let main_v28 : FVec F S1024x10 .f32 := broadcastInDim S1024x10 ![] bcast_S_S1024x10 main_cst_4
  let main_v29 : IVec S1024x10 1 := cmpf .ogt main_values main_v28
  let main_v30 : IVec S1024x10 1 := andi main_v27 main_v29
  let main_c_5 : IVec S_ 1 := constantI S_ 1 1#1
  let main_v31 : IVec S1024 1 := (fun x v => Host.reduce IntOp.andi x v reducesTo_S1024x10_S1024_d1 h_S_) main_v30 main_c_5
  let main_v32 : IVec S1024x1 1 := broadcastInDim S1024x1 ![0] bcast_S1024_S1024x1_0 main_v31
  let main_c_6 : IVec S_ 1 := constantI S_ 1 1#1
  let main_v33 : IVec S1024x64 1 := broadcastInDim S1024x64 ![] bcast_S_S1024x64 main_c_6
  let main_v34 : IVec S1024x10 1 := broadcastInDim S1024x10 ![0, 1] bcast_S1024x1_S1024x10_0_1 main_v32
  (main_v33, main_v33, main_v33, main_v33, main_v34)

def fn {F : FTy → Type} [FloatOps F] (main_arg0 : FVec F S1024x64 .f32) (main_arg1 : FVec F S1024x64 .f32) (main_arg2 : FVec F S1024x64 .f32) (main_arg3 : FVec F S1024x64 .f32) (main_arg4 : FVec F S100000x256 .f32) : IVec S1024x64 1 × IVec S1024x64 1 × IVec S1024x64 1 × IVec S1024x64 1 × IVec S1024x10 1 :=
  let main_v0 : FVec F S1024x256 .f32 := concatenate S1024x256 1 [⟨S1024x64, main_arg0⟩, ⟨S1024x64, main_arg1⟩, ⟨S1024x64, main_arg2⟩, ⟨S1024x64, main_arg3⟩] concatenates_S1024x64_S1024x64_S1024x64_S1024x64_S1024x256_d1
  let main_v1 : FVec F S1024x256 .f32 := mulf main_v0 main_v0
  let main_cst : FVec F S_ .f32 := constant S_ .f32 0x00000000#32
  let main_v2 : FVec F S1024 .f32 := (fun x v => Host.reduceAdd x v reducesTo_S1024x256_S1024_d1 h_S_) main_v1 main_cst
  let main_v3 : FVec F S1024x1 .f32 := broadcastInDim S1024x1 ![0] bcast_S1024_S1024x1_0 main_v2
  let main_v4 : FVec F S100000x256 .f32 := mulf main_arg4 main_arg4
  let main_cst_0 : FVec F S_ .f32 := constant S_ .f32 0x00000000#32
  let main_v5 : FVec F S100000 .f32 := (fun x v => Host.reduceAdd x v reducesTo_S100000x256_S100000_d1 h_S_) main_v4 main_cst_0
  let main_v6 : FVec F S100000x1 .f32 := broadcastInDim S100000x1 ![0] bcast_S100000_S100000x1_0 main_v5
  let main_v7 : FVec F S1x100000 .f32 := (transpose S1x100000 [1, 0] · transposes_S100000x1_S1x100000_1_0) main_v6
  let main_v8 : FVec F S1024x100000 .f32 := broadcastInDim S1024x100000 ![0, 1] bcast_S1024x1_S1024x100000_0_1 main_v3
  let main_v9 : FVec F S1024x100000 .f32 := broadcastInDim S1024x100000 ![0, 1] bcast_S1x100000_S1024x100000_0_1 main_v7
  let main_v10 : FVec F S1024x100000 .f32 := addf main_v8 main_v9
  let main_v11 : FVec F S256x100000 .f32 := (transpose S256x100000 [1, 0] · transposes_S100000x256_S256x100000_1_0) main_arg4
  let main_v12 : FVec F S1024x100000 .f32 := (fun l r => Host.dotGeneral dot_S1024x256_S256x100000_S1024x100000_1_0_0_1_n_n none l r) main_v0 main_v11
  let main_cst_1 : FVec F S_ .f32 := constant S_ .f32 0x40000000#32
  let main_v13 : FVec F S1024x100000 .f32 := broadcastInDim S1024x100000 ![] bcast_S_S1024x100000 main_cst_1
  let main_v14 : FVec F S1024x100000 .f32 := mulf main_v13 main_v12
  let main_v15 : FVec F S1024x100000 .f32 := subf main_v10 main_v14
  let main_v16 : FVec F S1024x100000 .f32 := Host.negf main_v15
  let main_values : FVec F S1024x10 .f32 := (fun x => (Host.topK S1024x10 1 (FloatOps.cmpfTotal .gt) x sliceFits_S1024x100000_S1024x10).1) main_v16
  let main_indices : IVec S1024x10 32 := (fun x => (Host.topK S1024x10 1 (FloatOps.cmpfTotal .gt) x sliceFits_S1024x100000_S1024x10).2) main_v16
  let main_c : IVec S_ 32 := constantI S_ 32 256#32
  let main_v17 : IVec S1024x10 32 := broadcastInDim S1024x10 ![] bcast_S_S1024x10 main_c
  fn_part1 (F := F) main_values main_indices main_v17
-- ==== Kernel.lean ====
abbrev S1024x64 : Shape := ⟨2, ![1024, 64]⟩
abbrev S100000x256 : Shape := ⟨2, ![100000, 256]⟩
abbrev S1024x256 : Shape := ⟨2, ![1024, 256]⟩
abbrev S1024x10 : Shape := ⟨2, ![1024, 10]⟩
abbrev S2048x256 : Shape := ⟨2, ![2048, 256]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x128 : Shape := ⟨2, ![1024, 128]⟩

abbrev nBuf : Space → Nat
  | .hbm => 7
  | .vmem => 6
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S100000x256, .f32⟩
  | .hbm, ⟨5, _⟩ => ⟨S1024x256, .f32⟩
  | .hbm, ⟨6, _⟩ => ⟨S1024x10, .i32⟩
  | .local _ .vmem, ⟨0, _⟩ => ⟨S1024x256, .f32⟩
  | .local _ .vmem, ⟨1, _⟩ => ⟨S2048x256, .f32⟩
  | .local _ .vmem, ⟨2, _⟩ => ⟨S2048x256, .f32⟩
  | .local _ .vmem, ⟨3, _⟩ => ⟨S1024x10, .i32⟩
  | .local _ .vmem, ⟨4, _⟩ => ⟨S1024x1024, .f32⟩
  | .local _ .vmem, ⟨5, _⟩ => ⟨S1024x1024, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v245 : BitVec 1 := Scalar.cmpi .eq arg0 c48_i32
  let v246 : BitVec 32 := Scalar.extui v245
  let c0_i32_46 : BitVec 32 := 0#32
  let v247 : BitVec 1 := Scalar.cmpi .ne v246 c0_i32_46
  v247

@[reducible] def k0_t1_loop : Scf.Loop 32 :=
  let c0_i32_48 : BitVec 32 := 0#32
  let c10_i32 : BitVec 32 := 10#32
  let v252 : BitVec 32 := Scalar.addi c0_i32_48 c10_i32
  let c1_i32 : BitVec 32 := 1#32
  ⟨c0_i32_48, v252, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x64 : Shape := ⟨2, ![1024, 64]⟩
abbrev S100000x256 : Shape := ⟨2, ![100000, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x100000 : Shape := ⟨2, ![1024, 100000]⟩
abbrev S256x100000 : Shape := ⟨2, ![256, 100000]⟩
abbrev S1024x10 : Shape := ⟨2, ![1024, 10]⟩

abbrev nBuf : Space → Nat
  | .hbm => 27
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S100000x256, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S100000x256, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S1x100000, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S256x100000, .f32⟩
  | .hbm, ⟨19, _⟩ => ⟨S1024x100000, .f32⟩
  | .hbm, ⟨20, _⟩ => ⟨S_, .f32⟩
  | .hbm, ⟨21, _⟩ => ⟨S1024x100000, .f32⟩
  | .hbm, ⟨22, _⟩ => ⟨S1024x100000, .f32⟩
  | .hbm, ⟨23, _⟩ => ⟨S1024x100000, .f32⟩
  | .hbm, ⟨24, _⟩ => ⟨S1024x100000, .f32⟩
  | .hbm, ⟨25, _⟩ => ⟨S1024x10, .f32⟩
  | .hbm, ⟨26, _⟩ => ⟨S1024x10, .i32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_values : Ref sig .tc := ⟨.hbm, 25, rfl⟩
abbrev main_indices : Ref sig .tc := ⟨.hbm, 26, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: the type of its contents, -/
abbrev Bf (c : Dev nD) {sp : Space} {S : Shape} {e : EltTy} (M : Memref sig .tc sp S e) : Type := Buf (Elt F) (M.view.loc (c : Thread nD τ))
/-- and the buffer held whole at contents `f`. -/
abbrev pt (c : Dev nD) {sp : Space} {S : Shape} {e : EltTy} (M : Memref sig .tc sp S e) (f : Bf (F := F) c M) : sProp 𝕄 :=
  M.view.loc (c : Thread nD τ) ↦{fullShare} f
/-- A staging memref held on core `c` at contents `f`: every element its view reaches. -/
abbrev st (c : Dev nD) {sp : Space} {S : Shape} {e : EltTy} (M : Memref sig .tc sp S e) (f : Bf (F := F) c M) : sProp 𝕄 :=
  M.view.loc (c : Thread nD τ) ↦[M.view.set]{fullShare} f

/-- The condition under which the kernel initialises its lists: the grid point is the first. -/
abbrev cond1 (i : grid0.Coords) : BitVec 1 := Scalar.cmpi .ne (Scalar.extui (Scalar.cmpi .eq (BitVec.ofNat 32 (i 0).val) 0#32) : BitVec 32) 0#32

variable (c : Dev nD) (i : grid0.Coords)
    (M1 : Memref sig .tc .vmem S1024x256 .f32) (w1 : M1.IsWhole) (M2 : Memref sig .tc .vmem S2048x256 .f32) (w2 : M2.IsWhole)
    (M3 : Memref sig .tc .vmem S1024x10 .i32) (w3 : M3.IsWhole) (M4 : Memref sig .tc .vmem S1024x1024 .f32) (w4 : M4.IsWhole)
    (M5 : Memref sig .tc .vmem S1024x1024 .i32) (w5 : M5.IsWhole)
    (f1 : Bf (F := F) c M1) (f2 : Bf (F := F) c M2) (f4 : Bf (F := F) c M4) (f5 : Bf (F := F) c M5)

/-- The first grid point, which initialises the lists: what it leaves in the two list buffers. -/
def runFirst (h1 : cond1 i = 1#1) (h2 : ¬ k0_cond2 i = 1#1) :
    { W : Bf (F := F) c M4 × Bf (F := F) c M5 //
      ∀ (f3 : Bf (F := F) c M3) (E : Set ℕ) (Q : PUnit → sProp 𝕄),
        iprop(st c M1 f1 ∗ st c M2 f2 ∗ st c M3 f3 ∗ pt c M4 f4 ∗ pt c M5 f5
          ∗ (iprop(st c M1 f1 ∗ st c M2 f2 ∗ st c M3 f3 ∗ pt c M4 W.1 ∗ pt c M5 W.2) -∗ Q ⟨⟩))
        ⊢ wp frame (wpE (defs₀ (F := F)) Variants.none c none) E
            (cc0__dist_topk_kernel i M1 w1 M2 w2 M3 w3 M4 w4 M5 w5) Q } := by
  refine ⟨⟨?_, ?_⟩, fun f3 E Q => ?run⟩
  case run =>
    iintro ⟨H1, H2, H3, H4, H5, Hk⟩
    sl_exec_parts
    sl_step
    iapply Hk
    isplitl [H1]; · iexact H1
    isplitl [H2]; · iexact H2
    isplitl [H3]; · iexact H3
    isplitl [H4]; · iexact H4
    iexact H5

/-- A middle grid point: what it leaves in the two list buffers. -/
def runMid (h1 : ¬ cond1 i = 1#1) (h2 : ¬ k0_cond2 i = 1#1) :
    { W : Bf (F := F) c M4 × Bf (F := F) c M5 //
      ∀ (f3 : Bf (F := F) c M3) (E : Set ℕ) (Q : PUnit → sProp 𝕄),
        iprop(st c M1 f1 ∗ st c M2 f2 ∗ st c M3 f3 ∗ pt c M4 f4 ∗ pt c M5 f5
          ∗ (iprop(st c M1 f1 ∗ st c M2 f2 ∗ st c M3 f3 ∗ pt c M4 W.1 ∗ pt c M5 W.2) -∗ Q ⟨⟩))
        ⊢ wp frame (wpE (defs₀ (F := F)) Variants.none c none) E
            (cc0__dist_topk_kernel i M1 w1 M2 w2 M3 w3 M4 w4 M5 w5) Q } := by
  refine ⟨⟨?_, ?_⟩, fun f3 E Q => ?run⟩
  case run =>
    iintro ⟨H1, H2, H3, H4, H5, Hk⟩
    sl_exec_parts
    sl_step
    iapply Hk
    isplitl [H1]; · iexact H1
    isplitl [H2]; · iexact H2
    isplitl [H3]; · iexact H3
    isplitl [H4]; · iexact H4
    iexact H5

/-- The last grid point, which also selects: what it leaves in the two list buffers and in the output block. -/
def runLast (h1 : ¬ cond1 i = 1#1) (h2 : k0_cond2 i = 1#1) (f3 : Bf (F := F) c M3) :
    { W : Bf (F := F) c M4 × Bf (F := F) c M5 × Bf (F := F) c M3 //
      ∀ (E : Set ℕ) (Q : PUnit → sProp 𝕄),
        iprop(st c M1 f1 ∗ st c M2 f2 ∗ st c M3 f3 ∗ pt c M4 f4 ∗ pt c M5 f5
          ∗ (iprop(st c M1 f1 ∗ st c M2 f2 ∗ st c M3 W.2.2 ∗ pt c M4 W.1 ∗ pt c M5 W.2.1) -∗ Q ⟨⟩))
        ⊢ wp frame (wpE (defs₀ (F := F)) Variants.none c none) E
            (cc0__dist_topk_kernel i M1 w1 M2 w2 M3 w3 M4 w4 M5 w5) Q } := by
  refine ⟨⟨?_, ?_, ?_⟩, fun E Q => ?run⟩
  case run =>
    iintro ⟨H1, H2, H3, H4, H5, Hk⟩
    sl_exec_parts
    sl_step
    iapply Hk
    isplitl [H1]; · iexact H1
    isplitl [H2]; · iexact H2
    isplitl [H3]; · iexact H3
    isplitl [H4]; · iexact H4
    iexact H5

end Cert.KernelIdeal.Body

end
-- ==== Proof.Region.lean ====
module

public import proofs.«01_k».proof.Proof.Body
public import Idealize.ShloMosaic.Lib.Pipeline.DatRel

@[expose] public section

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-- The two list buffers: the value planes and the index planes. -/
abbrev bv : Memref sig .tc .vmem S1024x1024 .f32 := Memref.whole cc0_scratch0
abbrev bi : Memref sig .tc .vmem S1024x1024 .i32 := Memref.whole cc0_scratch1

/-- Contents of the two list buffers. -/
abbrev FV (c : Dev nD) : Type := Bf (F := F) c bv
abbrev FI (c : Dev nD) : Type := Bf (F := F) c bi

variable (m : (ℓ : Loc nD τ sig) → Buf (Elt F) ℓ) (ρ : Dev nD → PrngReg)

/-- What the data buffer holds at point `t`: the point's block of the data, and `d` where the block overhangs the array. -/
abbrev blk1 (c : Dev nD) (t : Fin cfg0.N) (d : S2048x256.Idx → Elt F .f32) : S2048x256.Idx → Elt F .f32 :=
  win0_1.fill (grid0.coords t) d (iblk m c 1 t)

/-- The first condition holds at the first point only, -/
theorem cond1_iff : ∀ t : Fin grid0.N, cond1 (grid0.coords t) = 1#1 ↔ t.val = 0 := by decide +kernel
/-- and the second at the last. -/
theorem cond2_iff : ∀ t : Fin grid0.N, k0_cond2 (grid0.coords t) = 1#1 ↔ t.val = 48 := by decide +kernel

/-- A relation `Inv` on the contents of the two list buffers, indexed by the number of points done, that the body's
    three runs carry from point to point, and a property `R` of the output block that the last point's run establishes. -/
structure Track (c : Dev nD) (Inv : ℕ → FV (F := F) c → FI (F := F) c → Prop) (R : (S1024x10.Idx → Elt F .i32) → Prop) : Prop where
  zero : ∀ f4 f5, Inv 0 f4 f5
  first : ∀ (t : Fin grid0.N) (h1 : cond1 (grid0.coords t) = 1#1) (h2 : ¬ k0_cond2 (grid0.coords t) = 1#1)
    (M1 : Memref sig .tc .vmem S1024x256 .f32) (w1 : M1.IsWhole) (M2 : Memref sig .tc .vmem S2048x256 .f32) (w2 : M2.IsWhole)
    (M3 : Memref sig .tc .vmem S1024x10 .i32) (w3 : M3.IsWhole)
    (f1 : Bf (F := F) c M1) (f2 : Bf (F := F) c M2) (f4 : FV (F := F) c) (f5 : FI (F := F) c) (d : S2048x256.Idx → Elt F .f32),
    M1.view.read (Elt F) f1 = iblk m c 0 t → M2.view.read (Elt F) f2 = blk1 m c t d →
    Inv (t.val + 1) (runFirst c (grid0.coords t) M1 w1 M2 w2 M3 w3 bv (Memref.isWhole_whole _) bi (Memref.isWhole_whole _) f1 f2 f4 f5 h1 h2).1.1
      (runFirst c (grid0.coords t) M1 w1 M2 w2 M3 w3 bv (Memref.isWhole_whole _) bi (Memref.isWhole_whole _) f1 f2 f4 f5 h1 h2).1.2
  mid : ∀ (t : Fin grid0.N) (h1 : ¬ cond1 (grid0.coords t) = 1#1) (h2 : ¬ k0_cond2 (grid0.coords t) = 1#1)
    (M1 : Memref sig .tc .vmem S1024x256 .f32) (w1 : M1.IsWhole) (M2 : Memref sig .tc .vmem S2048x256 .f32) (w2 : M2.IsWhole)
    (M3 : Memref sig .tc .vmem S1024x10 .i32) (w3 : M3.IsWhole)
    (f1 : Bf (F := F) c M1) (f2 : Bf (F := F) c M2) (f4 : FV (F := F) c) (f5 : FI (F := F) c) (d : S2048x256.Idx → Elt F .f32),
    M1.view.read (Elt F) f1 = iblk m c 0 t → M2.view.read (Elt F) f2 = blk1 m c t d → Inv t.val f4 f5 →
    Inv (t.val + 1) (runMid c (grid0.coords t) M1 w1 M2 w2 M3 w3 bv (Memref.isWhole_whole _) bi (Memref.isWhole_whole _) f1 f2 f4 f5 h1 h2).1.1
      (runMid c (grid0.coords t) M1 w1 M2 w2 M3 w3 bv (Memref.isWhole_whole _) bi (Memref.isWhole_whole _) f1 f2 f4 f5 h1 h2).1.2
  last : ∀ (t : Fin grid0.N) (h1 : ¬ cond1 (grid0.coords t) = 1#1) (h2 : k0_cond2 (grid0.coords t) = 1#1)
    (M1 : Memref sig .tc .vmem S1024x256 .f32) (w1 : M1.IsWhole) (M2 : Memref sig .tc .vmem S2048x256 .f32) (w2 : M2.IsWhole)
    (M3 : Memref sig .tc .vmem S1024x10 .i32) (w3 : M3.IsWhole)
    (f1 : Bf (F := F) c M1) (f2 : Bf (F := F) c M2) (f4 : FV (F := F) c) (f5 : FI (F := F) c) (f3 : Bf (F := F) c M3) (d : S2048x256.Idx → Elt F .f32),
    M1.view.read (Elt F) f1 = iblk m c 0 t → M2.view.read (Elt F) f2 = blk1 m c t d → Inv t.val f4 f5 →
    Inv (t.val + 1) (runLast c (grid0.coords t) M1 w1 M2 w2 M3 w3 bv (Memref.isWhole_whole _) bi (Memref.isWhole_whole _) f1 f2 f4 f5 h1 h2 f3).1.1
      (runLast c (grid0.coords t) M1 w1 M2 w2 M3 w3 bv (Memref.isWhole_whole _) bi (Memref.isWhole_whole _) f1 f2 f4 f5 h1 h2 f3).1.2.1
    ∧ R (M3.view.read (Elt F)
      (runLast c (grid0.coords t) M1 w1 M2 w2 M3 w3 bv (Memref.isWhole_whole _) bi (Memref.isWhole_whole _) f1 f2 f4 f5 h1 h2 f3).1.2.2)

variable (Inv : (c : Dev nD) → ℕ → FV (F := F) c → FI (F := F) c → Prop) (R : Dev nD → (S1024x10.Idx → Elt F .i32) → Prop)

/-- The output window is the one held to a relation. -/
def fgt : Fin 3 → Bool := ![false, false, true]

/-- What the output block meets after point `t`: `R` after the last. -/
def Rl (c : Dev nD) : (w : Fin cfg0.W) → Fin cfg0.N → ((cfg0.win w).block.Idx → Elt F (cfg0.win w).elt) → Prop
  | ⟨2, _⟩, t, X => t.val = 48 → R c X
  | _, _, _ => True

/-- What the body carries from point to point: the two list buffers at contents in the relation, and the generator's register. -/
def Phi (c : Dev nD) (t : ℕ) : sProp 𝕄 :=
  iprop(∃ (f4 : FV (F := F) c) (f5 : FI (F := F) c), ⌜Inv c t f4 f5⌝ ∗ pt c bv f4 ∗ pt c bi f5 ∗ ∃ r, prngReg c r)

/-- What the body leaves in each staging buffer: an input's block in place. -/
def afterD (c : Dev nD) (w : Fin cfg0.W) (t : Fin cfg0.N) : (cfg0.win w).block.Idx → Elt F (cfg0.win w).elt :=
  match w with
  | ⟨0, _⟩ => iblk m c 0 t
  | ⟨1, _⟩ => blk1 m c t (fun _ => Scalar.ofBits .f32 0#32)
  | ⟨2, h⟩ => Pipeline.Dat.unnamed (cfg := cfg0) ⟨2, h⟩ t

/-- The proof data on core `c`. -/
def dat (c : Dev nD) : Dat τ (Elt F) Unit ℕ (UR sig nD τ) ℕ cfg0 c where
  A w := V m c (Pipeline.arrRef spec0 w)
  after := afterD m c
  Φ t := Phi Inv c t.val
  q _ := fullShare
  owed _ := 0

/-- The data buffer at point `t` holds the point's block. -/
theorem before_1 (c : Dev nD) (t : Fin cfg0.N) (d) : (dat m Inv c).before 1 t d = blk1 m c t d := by
  unfold Dat.before; rw [if_pos (fetch0_1 t)]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The output block taken back at a point. -/
def outAt (c : Dev nD) (t : Fin cfg0.N) : sProp 𝕄 :=
  iprop(∃ X : S1024x10.Idx → Elt F .i32, ⌜t.val = 48 → R c X⌝ ∗ owns (c : Thread nD τ) (st0_2 t) fullShare X)

/-- The body at a point, from the staging buffers and the lists in the relation. -/
theorem body_at (c : Dev nD) (hT : Track m c (Inv c) (R c)) (t : Fin cfg0.N) (O : sProp 𝕄) :
    iprop(Phi Inv c t.val ∗ O ∗ owns (c : Thread nD τ) (st0_0 t) fullShare (iblk m c 0 t)
        ∗ (∃ d, owns (c : Thread nD τ) (st0_1 t) fullShare (blk1 m c t d)) ∗ (∃ Y : S1024x10.Idx → Elt F .i32, owns (c : Thread nD τ) (st0_2 t) fullShare Y))
      ⊢ wp frame (wpE (defs₀ (F := F)) Variants.none c none) Set.univ (bodyAt0 t) fun _ =>
        iprop(Phi Inv c (t.val + 1) ∗ O ∗ owns (c : Thread nD τ) (st0_0 t) fullShare (iblk m c 0 t)
          ∗ (∃ d, owns (c : Thread nD τ) (st0_1 t) fullShare (blk1 m c t d)) ∗ outAt R c t) := by
  unfold Phi outAt bodyAt0 owns
  iintro ⟨⟨%f4, %f5, %hI, H4, H5, Hr⟩, HO, ⟨%f1, %e1, H1⟩, ⟨%d, %f2, %e2, H2⟩, ⟨%Y, %f3, -, H3⟩⟩
  by_cases h1 : cond1 (grid0.coords t) = 1#1
  · have t0 := (cond1_iff t).mp h1
    have h2 : ¬ k0_cond2 (grid0.coords t) = 1#1 := fun h => by have := (cond2_iff t).mp h; omega
    have hN := hT.first t h1 h2 _ (hstage0_0 ((cfg0.slots t 0).cast nbuf0_0)) _ (hstage0_1 ((cfg0.slots t 1).cast nbuf0_1)) _ (hstage0_2 ((cfg0.slots t 2).cast nbuf0_2)) f1 f2 f4 f5 d e1 e2
    iapply ((runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) bv (Memref.isWhole_whole _) bi (Memref.isWhole_whole _) f1 f2 f4 f5 h1 h2).2 f3 Set.univ _)
    isplitl [H1]; · iexact H1
    isplitl [H2]; · iexact H2
    isplitl [H3]; · iexact H3
    isplitl [H4]; · iexact H4
    isplitl [H5]; · iexact H5
    iintro ⟨H1, H2, H3, H4, H5⟩
    isplitl [H4 H5 Hr]
    · iexists _, _; isplitr; swap
      · isplitl [H4]; · iexact H4
        isplitl [H5]; · iexact H5
        iexact Hr
      ipureintro; exact hN
    isplitl [HO]; · iexact HO
    isplitl [H1]
    · iexists f1; isplitr; swap; · iexact H1
      ipureintro; exact e1
    isplitl [H2]
    · iexists d, f2; isplitr; swap; · iexact H2
      ipureintro; exact e2
    iexists _; isplitr; swap
    · iexists f3; isplitr; swap; · iexact H3
      ipureintro; rfl
    ipureintro; intro h; omega
  by_cases h2 : k0_cond2 (grid0.coords t) = 1#1
  · have hN := hT.last t h1 h2 _ (hstage0_0 ((cfg0.slots t 0).cast nbuf0_0)) _ (hstage0_1 ((cfg0.slots t 1).cast nbuf0_1)) _ (hstage0_2 ((cfg0.slots t 2).cast nbuf0_2)) f1 f2 f4 f5 f3 d e1 e2 hI
    iapply ((runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) bv (Memref.isWhole_whole _) bi (Memref.isWhole_whole _) f1 f2 f4 f5 h1 h2 f3).2 Set.univ _)
    isplitl [H1]; · iexact H1
    isplitl [H2]; · iexact H2
    isplitl [H3]; · iexact H3
    isplitl [H4]; · iexact H4
    isplitl [H5]; · iexact H5
    iintro ⟨H1, H2, H3, H4, H5⟩
    isplitl [H4 H5 Hr]
    · iexists _, _; isplitr; swap
      · isplitl [H4]; · iexact H4
        isplitl [H5]; · iexact H5
        iexact Hr
      ipureintro; exact hN.1
    isplitl [HO]; · iexact HO
    isplitl [H1]
    · iexists f1; isplitr; swap; · iexact H1
      ipureintro; exact e1
    isplitl [H2]
    · iexists d, f2; isplitr; swap; · iexact H2
      ipureintro; exact e2
    iexists _; isplitr; swap
    · iexists _; isplitr; swap; · iexact H3
      ipureintro; rfl
    ipureintro; intro _; exact hN.2
  have t48 : t.val ≠ 48 := fun h => h2 ((cond2_iff t).mpr h)
  have hN := hT.mid t h1 h2 _ (hstage0_0 ((cfg0.slots t 0).cast nbuf0_0)) _ (hstage0_1 ((cfg0.slots t 1).cast nbuf0_1)) _ (hstage0_2 ((cfg0.slots t 2).cast nbuf0_2)) f1 f2 f4 f5 d e1 e2 hI
  iapply ((runMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) bv (Memref.isWhole_whole _) bi (Memref.isWhole_whole _) f1 f2 f4 f5 h1 h2).2 f3 Set.univ _)
  isplitl [H1]; · iexact H1
  isplitl [H2]; · iexact H2
  isplitl [H3]; · iexact H3
  isplitl [H4]; · iexact H4
  isplitl [H5]; · iexact H5
  iintro ⟨H1, H2, H3, H4, H5⟩
  isplitl [H4 H5 Hr]
  · iexists _, _; isplitr; swap
    · isplitl [H4]; · iexact H4
      isplitl [H5]; · iexact H5
      iexact Hr
    ipureintro; exact hN
  isplitl [HO]; · iexact HO
  isplitl [H1]
  · iexists f1; isplitr; swap; · iexact H1
    ipureintro; exact e1
  isplitl [H2]
  · iexists d, f2; isplitr; swap; · iexact H2
    ipureintro; exact e2
  iexists _; isplitr; swap
  · iexists f3; isplitr; swap; · iexact H3
    ipureintro; rfl
  ipureintro; intro h; exact absurd h t48

/-- The library's body obligation, the output held to its relation. -/
theorem body_obligation (c : Dev nD) (hT : Track m c (Inv c) (R c)) :
    BodyObligationRel (dat m Inv c) (defs₀ (F := F)) Variants.none () Set.univ fgt (Rl R c) := fun t => by
  rw [bigSep_W0, bigSep_W0, defs₀_row]
  refine triple_restated (body_at m Inv R c hT t ((dat m Inv c).owesAt () t.castSucc)) rfl ?_ fun _ => ?_
  · change iprop(Phi Inv c t.val ∗ _ ∗ (∃ d, owns (c : Thread nD τ) (st0_0 t) fullShare ((dat m Inv c).before 0 t d))
      ∗ (∃ d, owns (c : Thread nD τ) (st0_1 t) fullShare ((dat m Inv c).before 1 t d))
      ∗ (∃ Y, ⌜((dat m Inv c).toRRel fgt (Rl R c)).Finds 2 t Y⌝ ∗ owns (c : Thread nD τ) (st0_2 t) fullShare Y)) ⊢ _
    iintro ⟨HP, HO, ⟨%d0, H0⟩, ⟨%d1, H1⟩, ⟨%Y, -, H2⟩⟩
    rw [before0_0_of m (dat m Inv c) rfl (fun _ => rfl) t d0, before_1]
    isplitl [HP]; · iexact HP
    isplitl [HO]; · iexact HO
    isplitl [H0]; · iexact H0
    isplitl [H1]; · iexists d1; iexact H1
    iexists Y; iexact H2
  · change _ ⊢ iprop(Phi Inv c (t.val + 1) ∗ _ ∗ owns (c : Thread nD τ) (st0_0 t) fullShare (iblk m c 0 t)
      ∗ (∃ d, owns (c : Thread nD τ) (st0_1 t) fullShare (win0_1.fill (grid0.coords t) d (win0_1.cut (grid0.coords t) (blk1 m c t (fun _ => Scalar.ofBits .f32 0#32)))))
      ∗ (∃ X : S1024x10.Idx → Elt F .i32, ⌜t.val = 48 → R c X⌝ ∗ owns (c : Thread nD τ) (st0_2 t) fullShare X))
    unfold blk1
    rw [Window.cut_fill]
    exact .rfl

/-- A body that carries the relation from point to point makes every run end, with the relation at the result. -/
theorem run_main (hT : ∀ c, Track m c (Inv c) (R c)) :
    θ_run defs (onTc (τ := τ) (main (F := F))) (s₀ m ρ)
      (fun r => Pipeline.RDat.FramePost cfg0 (fun c => (dat m Inv c).toRRel fgt (Rl R c)) (V m) r ∧ r.2.sem = fun _ => 0) :=
  Pipeline.RDat.θ_run_frame_track cfgs (0 : Fin 1) launch0 defs₀ Variants.none (fun c => (dat m Inv c).toRRel fgt (Rl R c)) m ρ main
    (hbody := fun c => (body_obligation m Inv R c (hT c)).toRRel) (hshare := fun c => (dat m Inv c).share_full fun _ => rfl)
    (howed := fun _ _ => rfl) (V := V m) (hmain := hmain m Variants.none) (hA := fun _ _ => rfl)
    (hin := fun c => by
      change Pipeline.ΦA spec0 c ⊢ Phi Inv c 0
      unfold Pipeline.ΦA Phi
      rw [scopedRest0_eq]
      iintro ⟨⟨⟨%f4, H4⟩, ⟨%f5, H5⟩⟩, Hr⟩
      iexists f4, f5; isplitr; · ipureintro; exact (hT c).zero f4 f5
      isplitl [H4]; · iexact H4
      isplitl [H5]; · iexact H5
      iexact Hr)
    (hout := fun c => by
      change Phi Inv c 49 ⊢ Pipeline.ΦA spec0 c
      unfold Pipeline.ΦA Phi
      rw [scopedRest0_eq]
      iintro ⟨%f4, %f5, -, H4, H5, Hr⟩
      isplitl [H4 H5]
      · isplitl [H4]; · iexists f4; iexact H4
        iexists f5; iexact H5
      iexact Hr) (Q' := _) (hQ' := fun _ h => h)

end Cert.KernelIdeal.Region

end
-- ==== Proof.Frame.lean ====
module

public import proofs.«01_k».proof.Proof.Region

@[expose] public section

noncomputable section

namespace Cert.KernelIdeal.Region

open Cert.KernelIdeal Cert.KernelIdeal.Gen Cert.KernelIdeal.Body
open Idealize.ShloMosaic Idealize.ShloMosaic.TcCoe Idealize.SL.Sem
open Idealize.ShloMosaic.Pipeline (RDat)

variable {F : FTy → Type} [FloatOps F]
variable (m : (ℓ : Loc nD τ sig) → Buf (Elt F) ℓ) (ρ : Dev nD → PrngReg)

/-- The argument arrays after a run are as launched: the data array is an input window's, the others no window's. -/
theorem args_kept {Inv : (c : Dev nD) → ℕ → FV (F := F) c → FI (F := F) c → Prop} {R : Dev nD → (S1024x10.Idx → Elt F .i32) → Prop}
    {r : PUnit × MemSt nD τ sig (Elt F)}
    (h : RDat.FramePost cfg0 (fun c => (dat m Inv c).toRRel fgt (Rl R c)) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in h c 1 rfl).trans (V_main_arg4 m c)⟩

/-- The relation that says nothing is carried by every run. -/
theorem track_true (c : Dev nD) : Track m c (fun _ _ _ => True) (fun _ => True) where
  zero _ _ := trivial
  first := by intros; trivial
  mid := by intros; trivial
  last := by intros; exact ⟨trivial, trivial⟩

/-- The frame: every run ends with the argument arrays as launched and every semaphore counter at zero. -/
theorem frame_run :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨args_kept m h.1, h.2⟩)
    (run_main m ρ (fun _ _ _ _ => True) (fun _ _ => True) fun c => track_true m c)

end Cert.KernelIdeal.Region

end
-- ==== Proof.Consts.lean ====
module

public import Idealize.ShloMosaic.Lib.Pointwise

@[expose] public section

/-! # The constants of both programs, as extended reals, and the words that hold small numbers -/

namespace Consts

open Idealize.ShloMosaic

/-- The pattern of `2.0` denotes two. -/
theorem two : Ideal.ofBits .f32 1073741824#32 = 2 := by
  have h : Ideal.ofBits .f32 1073741824#32 = (((2 : ℕ) : ℝ) : EReal) := by
    simp [Ideal.ofBits, Ideal.ieee]
    norm_cast
    norm_num
  rw [h]
  exact EReal.coe_natCast

/-- The pattern of `+∞` denotes `⊤`. -/
theorem top : Ideal.ofBits .f32 2139095040#32 = ⊤ := by
  simp [Ideal.ofBits, Ideal.ieee]

/-- The pattern of `-∞` denotes `⊥`. -/
theorem bot : Ideal.ofBits .f32 4286578688#32 = ⊥ := by
  simp [Ideal.ofBits, Ideal.ieee]

/-- A select on the bit of a decided proposition is that proposition's `if`. -/
theorem select_ofBool {α : Type} (p : Prop) [Decidable p] (x y : α) :
    Scalar.select (BitVec.ofBool (decide p)) x y = if p then x else y := by
  unfold Scalar.select
  by_cases h : p <;> simp [h]

/-- The signed comparison of two small words compares the numbers they hold. -/
theorem slt_toNat {x y : BitVec 32} (hx : x.toNat < 2 ^ 31) (hy : y.toNat < 2 ^ 31) :
    x.slt y = decide (x.toNat < y.toNat) := by
  rw [BitVec.slt, BitVec.toInt_eq_toNat_of_lt (by omega), BitVec.toInt_eq_toNat_of_lt (by omega)]
  simp

end Consts

end
-- ==== Proof.RowDist.lean ====
module

public import Mathlib.Data.EReal.Operations
public import Mathlib.Algebra.BigOperators.Fin

@[expose] public section

/-! # The distance both programs compute, as a function of two rows -/

noncomputable section

/-- The squared distance of two rows, as the sum of the squares less twice the product. -/
def rowDist (x y : Fin 256 → EReal) : EReal :=
  ((∑ k, x k * x k) + ∑ k, y k * y k) - 2 * ∑ k, x k * y k

/-- The distance of the query row `x` to the stored row of slot `m`; past the last stored row it is `⊤`. -/
def slots (x : Fin 256 → EReal) (y : Fin 100000 → Fin 256 → EReal) (m : ℕ) : EReal :=
  if h : m < 100000 then rowDist x (y ⟨m, h⟩) else ⊤

end
-- ==== Proof.Dist.lean ====
module

public import proofs.«01_k».proof.Proof.Consts
public import proofs.«01_k».proof.Proof.RowDist
public import proofs.«01_k».proof.Proof.Gen.KernelIdeal.Skeleton

@[expose] public section

noncomputable section

namespace Cert.KernelIdeal.Dist

open Cert.KernelIdeal Cert.KernelIdeal.Gen
open Idealize.ShloMosaic Idealize.ShloMosaic.TcCoe

/-- A block's distances, read at a query and a row of the block. -/
theorem pay13_apply (i : grid0.Coords) (x : Vec Ideal S1024x256 .f32) (y : Vec Ideal S2048x256 .f32) (q : Fin 1024) (k : Fin 2048) :
    k0_pay13 (F := Ideal) i x y (ix2 q k) = if 2048 * (i 0).val + k.val < 100000 then rowDist (fun l => x (ix2 q l)) (fun l => y (ix2 k l)) else ⊤ := by
  have hc : IntOp.cmpi CmpIPredicate.slt (BitVec.ofNat 32 k.val)
      (Scalar.subi 100000#32 (Scalar.muli (BitVec.ofNat 32 (i 0).val) 2048#32))
        = BitVec.ofBool (decide (2048 * (i 0).val + k.val < 100000)) := by
    have hi : (i 0).val < 49 := (i 0).isLt
    have hk := k.isLt
    have hs : (Scalar.subi 100000#32 (Scalar.muli (BitVec.ofNat 32 (i 0).val) 2048#32)).toNat = 100000 - 2048 * (i 0).val := by
      unfold Scalar.subi Scalar.muli IntOp.subi IntOp.muli
      rw [BitVec.toNat_sub, BitVec.toNat_mul, BitVec.toNat_ofNat, BitVec.toNat_ofNat, BitVec.toNat_ofNat]
      omega
    have hk' : (BitVec.ofNat 32 k.val).toNat = k.val := by rw [BitVec.toNat_ofNat]; omega
    show BitVec.ofBool ((BitVec.ofNat 32 k.val).slt _) = _
    rw [Consts.slt_toNat (by omega) (by omega), hs, hk']
    exact congrArg BitVec.ofBool (decide_eq_decide.mpr (by omega))
  pointwise [k0_pay13]
  rw [hc, Consts.two, Consts.top, Consts.select_ofBool]
  rfl

end Cert.KernelIdeal.Dist

end
-- ==== Proof.Planes.lean ====
module

public import proofs.«01_k».proof.Proof.Body

@[expose] public section

set_option maxRecDepth 65536

noncomputable section

namespace Cert.KernelIdeal.Planes

open Cert.KernelIdeal Cert.KernelIdeal.Gen Cert.KernelIdeal.Body
open Idealize.ShloMosaic Idealize.ShloMosaic.TcCoe

variable {F : FTy → Type} [FloatOps F]

/-- The four planes of each list buffer: per query and lane, four values in order and the indices they came from. -/
structure Pl (F : FTy → Type) [FloatOps F] where
  v0 : FVec F S1024x256 .f32
  v1 : FVec F S1024x256 .f32
  v2 : FVec F S1024x256 .f32
  v3 : FVec F S1024x256 .f32
  i0 : IVec S1024x256 32
  i1 : IVec S1024x256 32
  i2 : IVec S1024x256 32
  i3 : IVec S1024x256 32

/-- One new value per query and lane, `e` with index `k`, inserted into the planes. -/
def ins (e : FVec F S1024x256 .f32) (k : IVec S1024x256 32) (p : Pl F) : Pl F where
  v0 := select (cmpf .olt e p.v0) e p.v0
  v1 := select (cmpf .olt e p.v1) (select (cmpf .olt e p.v0) p.v0 e) p.v1
  v2 := select (cmpf .olt e p.v2) (select (cmpf .olt e p.v1) p.v1 e) p.v2
  v3 := select (cmpf .olt e p.v3) (select (cmpf .olt e p.v2) p.v2 e) p.v3
  i0 := select (cmpf .olt e p.v0) k p.i0
  i1 := select (cmpf .olt e p.v1) (select (cmpf .olt e p.v0) p.i0 k) p.i1
  i2 := select (cmpf .olt e p.v2) (select (cmpf .olt e p.v1) p.i1 k) p.i2
  i3 := select (cmpf .olt e p.v3) (select (cmpf .olt e p.v2) p.i2 k) p.i3

/-- The indices of a slice of 256 columns, `o` the slice's first column, at grid coordinate `a`. -/
def idx (a o : BitVec 32) : IVec S1024x256 32 :=
  addi (iota .tc S1024x256 32 [1] iota_S1024x256_d1_w32) (broadcast S1024x256 (Scalar.addi (Scalar.muli a 2048#32) o))

/-- Slices 0 and 1 of the block inserted one after the other. -/
def step01 (a : BitVec 32) (d : FVec F S1024x2048 .f32) (p : Pl F) : Pl F :=
  ins (extractStridedSlice S1024x256 ![0, 256] d slices_S1024x2048_o0_256_S1024x256) (idx a 256#32)
    (ins (extractStridedSlice S1024x256 ![0, 0] d slices_S1024x2048_o0_0_S1024x256) (idx a 0#32) p)

/-- Slices 2 and 3 of the block inserted. -/
def step23 (a : BitVec 32) (d : FVec F S1024x2048 .f32) (p : Pl F) : Pl F :=
  ins (extractStridedSlice S1024x256 ![0, 768] d slices_S1024x2048_o0_768_S1024x256) (idx a 768#32)
    (ins (extractStridedSlice S1024x256 ![0, 512] d slices_S1024x2048_o0_512_S1024x256) (idx a 512#32) p)

/-- Slices 4 and 5 of the block inserted. -/
def step45 (a : BitVec 32) (d : FVec F S1024x2048 .f32) (p : Pl F) : Pl F :=
  ins (extractStridedSlice S1024x256 ![0, 1280] d slices_S1024x2048_o0_1280_S1024x256) (idx a 1280#32)
    (ins (extractStridedSlice S1024x256 ![0, 1024] d slices_S1024x2048_o0_1024_S1024x256) (idx a 1024#32) p)

/-- Slices 6 and 7 of the block inserted. -/
def step67 (a : BitVec 32) (d : FVec F S1024x2048 .f32) (p : Pl F) : Pl F :=
  ins (extractStridedSlice S1024x256 ![0, 1792] d slices_S1024x2048_o0_1792_S1024x256) (idx a 1792#32)
    (ins (extractStridedSlice S1024x256 ![0, 1536] d slices_S1024x2048_o0_1536_S1024x256) (idx a 1536#32) p)

/-- A block's eight slices inserted in order: `a` the grid coordinate, `d` the block's distances. -/
def step (a : BitVec 32) (d : FVec F S1024x2048 .f32) (p : Pl F) : Pl F :=
  step67 a d (step45 a d (step23 a d (step01 a d p)))

/-- The rectangle of plane `r` in a list buffer. -/
abbrev pr0 : Rect S1024x1024 := Rect.unit (s := S1024x1024) ![0, 0] S1024x256.size inb_S1024x1024_S1024x256_0_0
abbrev pr1 : Rect S1024x1024 := Rect.unit (s := S1024x1024) ![0, 256] S1024x256.size inb_S1024x1024_S1024x256_0_256
abbrev pr2 : Rect S1024x1024 := Rect.unit (s := S1024x1024) ![0, 512] S1024x256.size inb_S1024x1024_S1024x256_0_512
abbrev pr3 : Rect S1024x1024 := Rect.unit (s := S1024x1024) ![0, 768] S1024x256.size inb_S1024x1024_S1024x256_0_768

variable (c : Dev nD) (i : grid0.Coords)
    (M1 : Memref sig .tc .vmem S1024x256 .f32) (w1 : M1.IsWhole) (M2 : Memref sig .tc .vmem S2048x256 .f32) (w2 : M2.IsWhole)
    (M3 : Memref sig .tc .vmem S1024x10 .i32) (w3 : M3.IsWhole) (M4 : Memref sig .tc .vmem S1024x1024 .f32) (w4 : M4.IsWhole)
    (M5 : Memref sig .tc .vmem S1024x1024 .i32) (w5 : M5.IsWhole)
    (f1 : Bf (F := F) c M1) (f2 : Bf (F := F) c M2) (f4 : Bf (F := F) c M4) (f5 : Bf (F := F) c M5)

/-- The planes as the body loads them. -/
def load : Pl F where
  v0 := M4.view.readAt (Elt F) pr0.toLoadRect f4
  v1 := M4.view.readAt (Elt F) pr1.toLoadRect f4
  v2 := M4.view.readAt (Elt F) pr2.toLoadRect f4
  v3 := M4.view.readAt (Elt F) pr3.toLoadRect f4
  i0 := M5.view.readAt (Elt F) pr0.toLoadRect f5
  i1 := M5.view.readAt (Elt F) pr1.toLoadRect f5
  i2 := M5.view.readAt (Elt F) pr2.toLoadRect f5
  i3 := M5.view.readAt (Elt F) pr3.toLoadRect f5

/-- The block's distances as the body computes them. -/
abbrev dst : FVec F S1024x2048 .f32 :=
  k0_pay13 i (M1.view.readAt (Elt F) (Rect.unit (s := S1024x256) ![0, 0] S1024x256.size inb_S1024x256_S1024x256_0_0).toLoadRect f1)
    (M2.view.readAt (Elt F) (Rect.unit (s := S2048x256) ![0, 0] S2048x256.size inb_S2048x256_S2048x256_0_0).toLoadRect f2)

/-- The value buffer with the four planes stored. -/
def storeV (f4 : Bf (F := F) c M4) (p : Pl F) : Bf (F := F) c M4 :=
  M4.view.writes (Elt F) f4 [⟨pr3, shapeCast S1024x256 p.v3 shapeCasts_S1024x256_S1024x256⟩, ⟨pr2, shapeCast S1024x256 p.v2 shapeCasts_S1024x256_S1024x256⟩,
    ⟨pr1, shapeCast S1024x256 p.v1 shapeCasts_S1024x256_S1024x256⟩, ⟨pr0, shapeCast S1024x256 p.v0 shapeCasts_S1024x256_S1024x256⟩]

/-- The index buffer with the four planes stored. -/
def storeI (f5 : Bf (F := F) c M5) (p : Pl F) : Bf (F := F) c M5 :=
  M5.view.writes (Elt F) f5 [⟨pr3, shapeCast S1024x256 p.i3 shapeCasts_S1024x256_S1024x256⟩, ⟨pr2, shapeCast S1024x256 p.i2 shapeCasts_S1024x256_S1024x256⟩,
    ⟨pr1, shapeCast S1024x256 p.i1 shapeCasts_S1024x256_S1024x256⟩, ⟨pr0, shapeCast S1024x256 p.i0 shapeCasts_S1024x256_S1024x256⟩]

/-- A middle point leaves the planes it loads with its block inserted. -/
theorem runMid_eq (h1 : ¬ (cond1 i = 1#1)) (h2 : ¬ (k0_cond2 i = 1#1)) :
    (runMid c i M1 w1 M2 w2 M3 w3 M4 w4 M5 w5 f1 f2 f4 f5 h1 h2).1
      = (storeV c M4 f4 (step (BitVec.ofNat 32 (i 0).val) (dst c i M1 M2 f1 f2) (load c M4 M5 f4 f5)),
        storeI c M5 f5 (step (BitVec.ofNat 32 (i 0).val) (dst c i M1 M2 f1 f2) (load c M4 M5 f4 f5))) := by
  unfold runMid storeV storeI step step01 step23 step45 step67 ins idx load dst
  dsimp only [Body.runMid.sl.r, Body.runMid.sl.r_1, Body.runMid.sl.r_2, Body.runMid.sl.r_3, Body.runMid.sl.r_4, Body.runMid.sl.r_5, Body.runMid.sl.r_6, Body.runMid.sl.r_7, Body.runMid.sl.r_8, Body.runMid.sl.r_9, Body.runMid.sl.r_10, Body.runMid.sl.r_11, Body.runMid.sl.r_12, Body.runMid.sl.r_13, Body.runMid.sl.r_14, Body.runMid.sl.r_15, Body.runMid.sl.r_16, Body.runMid.sl.r_17, Body.runMid.sl.r_18, Body.runMid.sl.r_19, Body.runMid.sl.r_20, Body.runMid.sl.r_21, Body.runMid.sl.r_22, Body.runMid.sl.r_23, Body.runMid.sl.r_24, Body.runMid.sl.r_25, Body.runMid.sl.r_26, Body.runMid.sl.r_27, Body.runMid.sl.r_28, Body.runMid.sl.r_29, Body.runMid.sl.r_30, Body.runMid.sl.r_31, Body.runMid.sl.r_32, Body.runMid.sl.r_33, Body.runMid.sl.r_34, Body.runMid.sl.r_35, Body.runMid.sl.r_36, Body.runMid.sl.r_37, Body.runMid.sl.r_38, Body.runMid.sl.r_39, Body.runMid.sl.r_40, Body.runMid.sl.r_41, Body.runMid.sl.r_42, Body.runMid.sl.r_43, Body.runMid.sl.r_44, Body.runMid.sl.r_45, Body.runMid.sl.r_46, Body.runMid.sl.r_47, Body.runMid.sl.r_48, Body.runMid.sl.r_49, Body.runMid.sl.r_50, Body.runMid.sl.v36, k0_pay1, k0_pay2, k0_pay3, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128]

/-- The value buffer as the first point leaves it: initialised whole, then the four planes stored. -/
def storeV0 (f4 : Bf (F := F) c M4) (p : Pl F) : Bf (F := F) c M4 :=
  M4.view.writes (Elt F) f4 [⟨pr3, shapeCast S1024x256 p.v3 shapeCasts_S1024x256_S1024x256⟩, ⟨pr2, shapeCast S1024x256 p.v2 shapeCasts_S1024x256_S1024x256⟩,
    ⟨pr1, shapeCast S1024x256 p.v1 shapeCasts_S1024x256_S1024x256⟩, ⟨pr0, shapeCast S1024x256 p.v0 shapeCasts_S1024x256_S1024x256⟩,
    ⟨Rect.unit (s := S1024x1024) ![0, 0] S1024x1024.size inb_S1024x1024_S1024x1024_0_0, k0_pay11 (F := F)⟩]

/-- The index buffer as the first point leaves it, likewise. -/
def storeI0 (f5 : Bf (F := F) c M5) (p : Pl F) : Bf (F := F) c M5 :=
  M5.view.writes (Elt F) f5 [⟨pr3, shapeCast S1024x256 p.i3 shapeCasts_S1024x256_S1024x256⟩, ⟨pr2, shapeCast S1024x256 p.i2 shapeCasts_S1024x256_S1024x256⟩,
    ⟨pr1, shapeCast S1024x256 p.i1 shapeCasts_S1024x256_S1024x256⟩, ⟨pr0, shapeCast S1024x256 p.i0 shapeCasts_S1024x256_S1024x256⟩,
    ⟨Rect.unit (s := S1024x1024) ![0, 0] S1024x1024.size inb_S1024x1024_S1024x1024_0_0, k0_pay12⟩]

/-- The planes as the first point loads them after initialising the lists. -/
def load0 : Pl F where
  v0 := M4.view.readCov (Val := Elt F) [⟨Rect.unit (s := S1024x1024) ![0, 0] S1024x1024.size inb_S1024x1024_S1024x1024_0_0, k0_pay11 (F := F)⟩] pr0.toLoadRect
  v1 := M4.view.readCov (Val := Elt F) [⟨Rect.unit (s := S1024x1024) ![0, 0] S1024x1024.size inb_S1024x1024_S1024x1024_0_0, k0_pay11 (F := F)⟩] pr1.toLoadRect
  v2 := M4.view.readCov (Val := Elt F) [⟨Rect.unit (s := S1024x1024) ![0, 0] S1024x1024.size inb_S1024x1024_S1024x1024_0_0, k0_pay11 (F := F)⟩] pr2.toLoadRect
  v3 := M4.view.readCov (Val := Elt F) [⟨Rect.unit (s := S1024x1024) ![0, 0] S1024x1024.size inb_S1024x1024_S1024x1024_0_0, k0_pay11 (F := F)⟩] pr3.toLoadRect
  i0 := M5.view.readCov (Val := Elt F) [⟨Rect.unit (s := S1024x1024) ![0, 0] S1024x1024.size inb_S1024x1024_S1024x1024_0_0, k0_pay12⟩] pr0.toLoadRect
  i1 := M5.view.readCov (Val := Elt F) [⟨Rect.unit (s := S1024x1024) ![0, 0] S1024x1024.size inb_S1024x1024_S1024x1024_0_0, k0_pay12⟩] pr1.toLoadRect
  i2 := M5.view.readCov (Val := Elt F) [⟨Rect.unit (s := S1024x1024) ![0, 0] S1024x1024.size inb_S1024x1024_S1024x1024_0_0, k0_pay12⟩] pr2.toLoadRect
  i3 := M5.view.readCov (Val := Elt F) [⟨Rect.unit (s := S1024x1024) ![0, 0] S1024x1024.size inb_S1024x1024_S1024x1024_0_0, k0_pay12⟩] pr3.toLoadRect

/-- The first point leaves the initial planes with its block inserted. -/
theorem runFirst_eq (h1 : cond1 i = 1#1) (h2 : ¬ (k0_cond2 i = 1#1)) :
    (runFirst c i M1 w1 M2 w2 M3 w3 M4 w4 M5 w5 f1 f2 f4 f5 h1 h2).1
      = (storeV0 c M4 f4 (step (BitVec.ofNat 32 (i 0).val) (dst c i M1 M2 f1 f2) (load0 M4 M5)),
        storeI0 c M5 f5 (step (BitVec.ofNat 32 (i 0).val) (dst c i M1 M2 f1 f2) (load0 M4 M5))) := by
  unfold runFirst storeV0 storeI0 step step01 step23 step45 step67 ins idx dst load0
  dsimp only [Body.runFirst.sl.r, Body.runFirst.sl.r_1, Body.runFirst.sl.r_2, Body.runFirst.sl.r_3, Body.runFirst.sl.r_4, Body.runFirst.sl.r_5, Body.runFirst.sl.r_6, Body.runFirst.sl.r_7, Body.runFirst.sl.r_8, Body.runFirst.sl.r_9, Body.runFirst.sl.r_10, Body.runFirst.sl.r_11, Body.runFirst.sl.r_12, Body.runFirst.sl.r_13, Body.runFirst.sl.r_14, Body.runFirst.sl.r_15, Body.runFirst.sl.r_16, Body.runFirst.sl.r_17, Body.runFirst.sl.r_18, Body.runFirst.sl.r_19, Body.runFirst.sl.r_20, Body.runFirst.sl.r_21, Body.runFirst.sl.r_22, Body.runFirst.sl.r_23, Body.runFirst.sl.r_24, Body.runFirst.sl.r_25, Body.runFirst.sl.r_26, Body.runFirst.sl.r_27, Body.runFirst.sl.r_28, Body.runFirst.sl.r_29, Body.runFirst.sl.r_30, Body.runFirst.sl.r_31, Body.runFirst.sl.r_32, Body.runFirst.sl.r_33, Body.runFirst.sl.r_34, Body.runFirst.sl.r_35, Body.runFirst.sl.r_36, Body.runFirst.sl.r_37, Body.runFirst.sl.r_38, Body.runFirst.sl.r_39, Body.runFirst.sl.r_40, Body.runFirst.sl.r_41, Body.runFirst.sl.r_42, Body.runFirst.sl.r_43, Body.runFirst.sl.r_44, Body.runFirst.sl.r_45, Body.runFirst.sl.v36, Body.runFirst.sl.v28, Body.runFirst.sl.v29, Body.runFirst.sl.v30, Body.runFirst.sl.v31, Body.runFirst.sl.v32, Body.runFirst.sl.v33, Body.runFirst.sl.v34, Body.runFirst.sl.v35, Body.runFirst.sl.H4_1, Body.runFirst.sl.H5_1, k0_pay1, k0_pay2, k0_pay3, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128]

/-- One round of the selection: the first key in the lexicographic order, recorded in lane `t` and masked. -/
def selRound (p : Pl F) (t : Fin k0_t1_loop.trips) (st : FVec F S1024x1024 .f32 × IVec S1024x128 32) : FVec F S1024x1024 .f32 × IVec S1024x128 32 :=
  (k0_pay9 p.i3 p.i2 p.i1 p.i0 st.1, k0_pay8 p.i3 p.i2 p.i1 p.i0 t st.1 st.2)

/-- The last point also selects, from the planes it leaves. -/
theorem runLast_eq (h1 : ¬ (cond1 i = 1#1)) (h2 : k0_cond2 i = 1#1) (f3 : Bf (F := F) c M3) :
    ∃ p : Pl F, p = step (BitVec.ofNat 32 (i 0).val) (dst c i M1 M2 f1 f2) (load c M4 M5 f4 f5) ∧
    (runLast c i M1 w1 M2 w2 M3 w3 M4 w4 M5 w5 f1 f2 f4 f5 h1 h2 f3).1
      = (storeV c M4 f4 p, storeI c M5 f5 p, M3.view.writes (Elt F) f3 [⟨Rect.unit (s := S1024x10) ![0, 0] S1024x10.size inb_S1024x10_S1024x10_0_0,
        k0_pay10 (Scf.fold (selRound p) (k0_pay4 p.v3 p.v2 p.v1 p.v0, k0_pay6)).2⟩]) := by
  refine ⟨_, rfl, ?_⟩
  unfold runLast storeV storeI step step01 step23 step45 step67 ins idx load dst selRound
  dsimp only [Body.runLast.sl.r, Body.runLast.sl.r_1, Body.runLast.sl.r_2, Body.runLast.sl.r_3, Body.runLast.sl.r_4, Body.runLast.sl.r_5, Body.runLast.sl.r_6, Body.runLast.sl.r_7, Body.runLast.sl.r_8, Body.runLast.sl.r_9, Body.runLast.sl.r_10, Body.runLast.sl.r_11, Body.runLast.sl.r_12, Body.runLast.sl.r_13, Body.runLast.sl.r_14, Body.runLast.sl.r_15, Body.runLast.sl.r_16, Body.runLast.sl.r_17, Body.runLast.sl.r_18, Body.runLast.sl.r_19, Body.runLast.sl.r_20, Body.runLast.sl.r_21, Body.runLast.sl.r_22, Body.runLast.sl.r_23, Body.runLast.sl.r_24, Body.runLast.sl.r_25, Body.runLast.sl.r_26, Body.runLast.sl.r_27, Body.runLast.sl.r_28, Body.runLast.sl.r_29, Body.runLast.sl.r_30, Body.runLast.sl.r_31, Body.runLast.sl.r_32, Body.runLast.sl.r_33, Body.runLast.sl.r_34, Body.runLast.sl.r_35, Body.runLast.sl.r_36, Body.runLast.sl.r_37, Body.runLast.sl.r_38, Body.runLast.sl.r_39, Body.runLast.sl.r_40, Body.runLast.sl.r_41, Body.runLast.sl.r_42, Body.runLast.sl.r_43, Body.runLast.sl.r_44, Body.runLast.sl.r_45, Body.runLast.sl.r_46, Body.runLast.sl.r_47, Body.runLast.sl.r_48, Body.runLast.sl.r_49, Body.runLast.sl.r_50, Body.runLast.sl.r_51, Body.runLast.sl.v36, k0_pay1, k0_pay2, k0_pay3, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128]

end Cert.KernelIdeal.Planes

end
-- ==== Proof.Lanes.lean ====
module

public import Mathlib.Data.Prod.Lex
public import Mathlib.Data.EReal.Basic
public import Mathlib.Tactic.SplitIfs
public import Mathlib.Tactic.Common

@[expose] public section

/-!
# One lane's sorted list

A lane keeps the four smallest of the keys it has seen, a key being a distance paired with the index it belongs to,
ordered first by distance and then by index. An empty place holds the sentinel `(⊤, 2^30)`.
-/

namespace Lanes

/-- A distance with its index, ordered lexicographically. -/
abbrev Key := EReal ×ₗ ℕ

/-- The key of slot `m` under the distances `D`. -/
noncomputable def key (D : ℕ → EReal) (m : ℕ) : Key := toLex (D m, m)

/-- The sentinel of an empty place. -/
noncomputable def emp : Key := toLex (⊤, 2 ^ 30)

/-- The key of a slot with a distance below `⊤` is below the empty place. -/
theorem key_lt_emp {D : ℕ → EReal} {m : ℕ} (h : D m < ⊤) : key D m < emp :=
  Prod.Lex.toLex_lt_toLex.mpr (Or.inl h)

/-- Equal keys are keys of the same slot. -/
theorem key_inj {D : ℕ → EReal} {a b : ℕ} (h : key D a = key D b) : a = b :=
  congrArg (fun x : Key => (ofLex x).2) h

/-- Four keys `s0 … s3` hold the smallest of those in `seen`: each place is empty or a seen key, the filled places come
first in strict order, and a seen key held nowhere is above the last place. -/
structure Held {K : Type} [LinearOrder K] (e : K) (seen : K → Prop) (s0 s1 s2 s3 : K) : Prop where
  bound : ∀ y, seen y → y < e
  m0 : s0 = e ∨ seen s0
  m1 : s1 = e ∨ seen s1
  m2 : s2 = e ∨ seen s2
  m3 : s3 = e ∨ seen s3
  c0 : s0 < s1 ∨ (s0 = e ∧ s1 = e)
  c1 : s1 < s2 ∨ (s1 = e ∧ s2 = e)
  c2 : s2 < s3 ∨ (s2 = e ∧ s3 = e)
  cover : ∀ y, seen y → y = s0 ∨ y = s1 ∨ y = s2 ∨ y = s3 ∨ s3 < y

section
variable {K : Type} [LinearOrder K]

/-- Four empty places hold the smallest of nothing. -/
theorem Held.empty (e : K) : Held e (fun _ => False) e e e e where
  bound _ h := h.elim
  m0 := .inl rfl
  m1 := .inl rfl
  m2 := .inl rfl
  m3 := .inl rfl
  c0 := .inr ⟨rfl, rfl⟩
  c1 := .inr ⟨rfl, rfl⟩
  c2 := .inr ⟨rfl, rfl⟩
  cover _ h := h.elim

/-- Inserting a new key by comparing it with each place keeps the four smallest. -/
theorem Held.insert {e : K} {seen seen' : K → Prop} {s0 s1 s2 s3 x : K} (h : Held e seen s0 s1 s2 s3) (hx : x < e)
    (hs : ∀ y, seen' y ↔ seen y ∨ y = x) (hn : ¬ seen x) :
    Held e seen' (if x < s0 then x else s0) (if x < s1 then (if x < s0 then s0 else x) else s1)
      (if x < s2 then (if x < s1 then s1 else x) else s2) (if x < s3 then (if x < s2 then s2 else x) else s3) := by
  obtain ⟨hb, m0, m1, m2, m3, c0, c1, c2, cov⟩ := h
  have n0 : x ≠ s0 := by rintro rfl; rcases m0 with h | h; exacts [absurd h hx.ne, hn h]
  have n1 : x ≠ s1 := by rintro rfl; rcases m1 with h | h; exacts [absurd h hx.ne, hn h]
  have n2 : x ≠ s2 := by rintro rfl; rcases m2 with h | h; exacts [absurd h hx.ne, hn h]
  have n3 : x ≠ s3 := by rintro rfl; rcases m3 with h | h; exacts [absurd h hx.ne, hn h]
  have b0 : s0 ≤ e := by rcases m0 with h | h; exacts [h.le, (hb _ h).le]
  have b1 : s1 ≤ e := by rcases m1 with h | h; exacts [h.le, (hb _ h).le]
  have b2 : s2 ≤ e := by rcases m2 with h | h; exacts [h.le, (hb _ h).le]
  have b3 : s3 ≤ e := by rcases m3 with h | h; exacts [h.le, (hb _ h).le]
  have l0 : s0 ≤ s1 := by rcases c0 with h | h; exacts [h.le, (h.1.trans h.2.symm).le]
  have l1 : s1 ≤ s2 := by rcases c1 with h | h; exacts [h.le, (h.1.trans h.2.symm).le]
  have l2 : s2 ≤ s3 := by rcases c2 with h | h; exacts [h.le, (h.1.trans h.2.symm).le]
  have e0 : ∀ {s : K}, s = e ∨ seen s → s = e ∨ seen' s := fun h => h.imp_right fun h => (hs _).2 (.inl h)
  have ex : x = e ∨ seen' x := .inr ((hs x).2 (.inr rfl))
  refine ⟨?_, ?_, ?_, ?_, ?_, ?_, ?_, ?_, ?_⟩
  · intro y hy
    rcases (hs y).1 hy with h | rfl
    exacts [hb y h, hx]
  · split_ifs; exacts [ex, e0 m0]
  · split_ifs; exacts [e0 m0, ex, e0 m1]
  · split_ifs; exacts [e0 m1, ex, e0 m2]
  · split_ifs; exacts [e0 m2, ex, e0 m3]
  · by_cases h0 : x < s0
    · simp only [h0, h0.trans_le l0, if_true]; exact .inl trivial
    · have h0' : s0 < x := lt_of_le_of_ne (not_lt.mp h0) (Ne.symm n0)
      simp only [h0, if_false]
      by_cases h1 : x < s1
      · simp only [h1, if_true]; exact .inl h0'
      · simp only [h1, if_false]; exact c0
  · by_cases h1 : x < s1
    · simp only [h1, h1.trans_le l1, if_true]
      by_cases h0 : x < s0
      · simp only [h0, if_true]
        rcases c0 with h | h
        · exact .inl h
        · exact .inr h
      · simp only [h0, if_false]; exact .inl h1
    · have h1' : s1 < x := lt_of_le_of_ne (not_lt.mp h1) (Ne.symm n1)
      simp only [h1, if_false]
      by_cases h2 : x < s2
      · simp only [h2, if_true]; exact .inl h1'
      · simp only [h2, if_false]; exact c1
  · by_cases h2 : x < s2
    · simp only [h2, h2.trans_le l2, if_true]
      by_cases h1 : x < s1
      · simp only [h1, if_true]
        rcases c1 with h | h
        · exact .inl h
        · exact .inr h
      · simp only [h1, if_false]; exact .inl h2
    · have h2' : s2 < x := lt_of_le_of_ne (not_lt.mp h2) (Ne.symm n2)
      simp only [h2, if_false]
      by_cases h3 : x < s3
      · simp only [h3, if_true]; exact .inl h2'
      · simp only [h3, if_false]; exact c2
  · intro y hy
    by_cases h3 : x < s3
    · have hy' : y = s0 ∨ y = s1 ∨ y = s2 ∨ y = s3 ∨ s3 < y ∨ y = x := by
        rcases (hs y).1 hy with h | rfl
        · rcases cov y h with h | h | h | h | h <;> simp [h]
        · simp
      by_cases h2 : x < s2
      · by_cases h1 : x < s1
        · by_cases h0 : x < s0
          · have g : s2 < s3 ∨ s3 = e := by rcases c2 with h | h; exacts [.inl h, .inr h.2]
            have gy : y < e := by rcases (hs y).1 hy with h | rfl; exacts [hb y h, hx]
            simp only [h0, h1, h2, h3, if_true]
            rcases hy' with h | h | h | h | h | h
            · exact .inr (.inl h)
            · exact .inr (.inr (.inl h))
            · exact .inr (.inr (.inr (.inl h)))
            · subst h
              rcases g with g | g
              · exact .inr (.inr (.inr (.inr g)))
              · exact absurd g gy.ne
            · exact .inr (.inr (.inr (.inr (l2.trans_lt h))))
            · exact .inl h
          · have g : s2 < s3 ∨ s3 = e := by rcases c2 with h | h; exacts [.inl h, .inr h.2]
            have gy : y < e := by rcases (hs y).1 hy with h | rfl; exacts [hb y h, hx]
            simp only [h0, h1, h2, h3, if_true, if_false]
            rcases hy' with h | h | h | h | h | h
            · exact .inl h
            · exact .inr (.inr (.inl h))
            · exact .inr (.inr (.inr (.inl h)))
            · subst h
              rcases g with g | g
              · exact .inr (.inr (.inr (.inr g)))
              · exact absurd g gy.ne
            · exact .inr (.inr (.inr (.inr (l2.trans_lt h))))
            · exact .inr (.inl h)
        · have h0 : ¬ x < s0 := fun h => h1 (h.trans_le l0)
          have g : s2 < s3 ∨ s3 = e := by rcases c2 with h | h; exacts [.inl h, .inr h.2]
          have gy : y < e := by rcases (hs y).1 hy with h | rfl; exacts [hb y h, hx]
          simp only [h0, h1, h2, h3, if_true, if_false]
          rcases hy' with h | h | h | h | h | h
          · exact .inl h
          · exact .inr (.inl h)
          · exact .inr (.inr (.inr (.inl h)))
          · subst h
            rcases g with g | g
            · exact .inr (.inr (.inr (.inr g)))
            · exact absurd g gy.ne
          · exact .inr (.inr (.inr (.inr (l2.trans_lt h))))
          · exact .inr (.inr (.inl h))
      · have h1 : ¬ x < s1 := fun h => h2 (h.trans_le l1)
        have h0 : ¬ x < s0 := fun h => h1 (h.trans_le l0)
        simp only [h0, h1, h2, h3, if_true, if_false]
        rcases hy' with h | h | h | h | h | h
        · exact .inl h
        · exact .inr (.inl h)
        · exact .inr (.inr (.inl h))
        · exact .inr (.inr (.inr (.inr (h ▸ h3))))
        · exact .inr (.inr (.inr (.inr (h3.trans h))))
        · exact .inr (.inr (.inr (.inl h)))
    · have h2 : ¬ x < s2 := fun h => h3 (h.trans_le l2)
      have h1 : ¬ x < s1 := fun h => h2 (h.trans_le l1)
      have h0 : ¬ x < s0 := fun h => h1 (h.trans_le l0)
      simp only [h0, h1, h2, h3, if_false]
      rcases (hs y).1 hy with h | rfl
      · exact cov y h
      · exact .inr (.inr (.inr (.inr (lt_of_le_of_ne (not_lt.mp h3) (Ne.symm n3)))))

end

/-- The keys lane `l` has seen once the slots below `n` are through: those of the lane's residue class with a distance
below `⊤`. -/
def seen (D : ℕ → EReal) (l n : ℕ) (y : Key) : Prop := ∃ m, m < n ∧ m % 256 = l ∧ D m < ⊤ ∧ y = key D m

/-- Lane `l` after the slots below `n`, as the kernel stores it: values `v0 … v3` and indices `i0 … i3`. -/
def Lane (D : ℕ → EReal) (l n : ℕ) (v0 v1 v2 v3 : EReal) (i0 i1 i2 i3 : BitVec 32) : Prop :=
  Held emp (seen D l n) (toLex (v0, i0.toNat)) (toLex (v1, i1.toNat)) (toLex (v2, i2.toNat)) (toLex (v3, i3.toNat))

/-- Before any slot of its class a lane is empty. -/
theorem Lane.empty (D : ℕ → EReal) (l : ℕ) (hl : l < 256) :
    Lane D l l ⊤ ⊤ ⊤ ⊤ 1073741824#32 1073741824#32 1073741824#32 1073741824#32 := by
  have h : seen D l l = fun _ => False := by
    funext y
    refine eq_false ?_
    rintro ⟨m, hm, hr, -⟩
    omega
  unfold Lane
  rw [h]
  exact Held.empty emp

/-- Against a place of the lane, comparing the new distance strictly is comparing the new key. -/
theorem lt_place {D : ℕ → EReal} {l n : ℕ} {v : EReal} {i : BitVec 32} (hn : D n < ⊤)
    (h : (toLex (v, i.toNat) : Key) = emp ∨ seen D l n (toLex (v, i.toNat))) :
    D n < v ↔ key D n < toLex (v, i.toNat) := by
  rcases h with h | ⟨m, hm, -, -, h⟩
  · have hv : v = ⊤ := congrArg (fun x : Key => (ofLex x).1) h
    rw [h, hv]
    exact ⟨fun _ => key_lt_emp hn, fun _ => hn⟩
  · have hv : v = D m := congrArg (fun x : Key => (ofLex x).1) h
    rw [h, hv]
    unfold key
    rw [Prod.Lex.toLex_lt_toLex]
    constructor
    · exact .inl
    · rintro (h | ⟨-, h⟩)
      · exact h
      · exact absurd h (by simp only; omega)

/-- A slot of the lane's class inserted by the kernel's comparisons: `k` its index, `e` its distance. -/
theorem Lane.insert {D : ℕ → EReal} {l n : ℕ} {v0 v1 v2 v3 : EReal} {i0 i1 i2 i3 : BitVec 32}
    (h : Lane D l n v0 v1 v2 v3 i0 i1 i2 i3) (hl : n % 256 = l) (e : EReal) (he : e = D n) (k : BitVec 32) (hk : k.toNat = n) :
    Lane D l (n + 256) (if e < v0 then e else v0) (if e < v1 then (if e < v0 then v0 else e) else v1)
      (if e < v2 then (if e < v1 then v1 else e) else v2) (if e < v3 then (if e < v2 then v2 else e) else v3)
      (if e < v0 then k else i0) (if e < v1 then (if e < v0 then i0 else k) else i1)
      (if e < v2 then (if e < v1 then i1 else k) else i2) (if e < v3 then (if e < v2 then i2 else k) else i3) := by
  subst he
  by_cases hn : D n < ⊤
  · have hs : ∀ y, seen D l (n + 256) y ↔ seen D l n y ∨ y = key D n := by
      intro y
      constructor
      · rintro ⟨m, hm, hr, ht, rfl⟩
        by_cases hmn : m < n
        · exact .inl ⟨m, hmn, hr, ht, rfl⟩
        · exact .inr (congrArg (key D) (by omega))
      · rintro (⟨m, hm, hr, ht, rfl⟩ | rfl)
        · exact ⟨m, by omega, hr, ht, rfl⟩
        · exact ⟨n, by omega, hl, hn, rfl⟩
    have hx : ¬ seen D l n (key D n) := by
      rintro ⟨m, hm, -, -, h⟩
      exact absurd (key_inj h) (by omega)
    have key := Held.insert h (key_lt_emp hn) hs hx
    have q0 := lt_place hn h.m0
    have q1 := lt_place hn h.m1
    have q2 := lt_place hn h.m2
    have q3 := lt_place hn h.m3
    unfold Lane
    by_cases h0 : D n < v0 <;> by_cases h1 : D n < v1 <;> by_cases h2 : D n < v2 <;> by_cases h3 : D n < v3 <;>
      simp only [← q0, ← q1, ← q2, ← q3, h0, h1, h2, h3, if_true, if_false] at key ⊢ <;>
      simpa only [Lanes.key, hk] using key
  · have ht : D n = ⊤ := not_lt_top_iff.mp hn
    have hs : seen D l (n + 256) = seen D l n := by
      funext y
      refine propext ⟨?_, ?_⟩
      · rintro ⟨m, hm, hr, hd, rfl⟩
        by_cases hmn : m < n
        · exact ⟨m, hmn, hr, hd, rfl⟩
        · exact absurd ((show m = n by omega) ▸ hd) hn
      · rintro ⟨m, hm, hr, hd, rfl⟩
        exact ⟨m, by omega, hr, hd, rfl⟩
    have h' := h
    unfold Lane at h' ⊢
    rw [hs, ht]
    simpa only [not_top_lt, if_false] using h'

/-- A class slot nearer than `⊤` that no place holds has four nearer slots of its class ahead of it. -/
theorem Lane.four {D : ℕ → EReal} {l n : ℕ} {v0 v1 v2 v3 : EReal} {i0 i1 i2 i3 : BitVec 32}
    (h : Lane D l n v0 v1 v2 v3 i0 i1 i2 i3) {m : ℕ} (hm : m < n) (hl : m % 256 = l) (hd : D m < ⊤)
    (h0 : i0.toNat ≠ m) (h1 : i1.toNat ≠ m) (h2 : i2.toNat ≠ m) (h3 : i3.toNat ≠ m) :
    ∃ a b c d : ℕ, a % 256 = l ∧ b % 256 = l ∧ c % 256 = l ∧ d % 256 = l ∧ D a < ⊤ ∧ D b < ⊤ ∧ D c < ⊤ ∧ D d < ⊤ ∧
      key D a < key D b ∧ key D b < key D c ∧ key D c < key D d ∧ key D d < key D m := by
  have no : ∀ {v : EReal} {i : BitVec 32}, i.toNat ≠ m → key D m ≠ toLex (v, i.toNat) := fun hi h =>
    hi (congrArg (fun x : Key => (ofLex x).2) h).symm
  have hlt : (toLex (v3, i3.toNat) : Key) < key D m := by
    rcases h.cover _ ⟨m, hm, hl, hd, rfl⟩ with q | q | q | q | q
    exacts [absurd q (no h0), absurd q (no h1), absurd q (no h2), absurd q (no h3), q]
  have he : key D m < emp := key_lt_emp hd
  have n3 : (toLex (v3, i3.toNat) : Key) ≠ emp := (hlt.trans he).ne
  have c2 := h.c2.resolve_right fun q => n3 q.2
  have n2 : (toLex (v2, i2.toNat) : Key) ≠ emp := (c2.trans (hlt.trans he)).ne
  have c1 := h.c1.resolve_right fun q => n2 q.2
  have n1 : (toLex (v1, i1.toNat) : Key) ≠ emp := (c1.trans (c2.trans (hlt.trans he))).ne
  have c0 := h.c0.resolve_right fun q => n1 q.2
  have n0 : (toLex (v0, i0.toNat) : Key) ≠ emp := (c0.trans (c1.trans (c2.trans (hlt.trans he)))).ne
  obtain ⟨a, -, ra, da, ea⟩ := h.m0.resolve_left n0
  obtain ⟨b, -, rb, db, eb⟩ := h.m1.resolve_left n1
  obtain ⟨c, -, rc, dc, ec⟩ := h.m2.resolve_left n2
  obtain ⟨d, -, rd, dd, ed⟩ := h.m3.resolve_left n3
  exact ⟨a, b, c, d, ra, rb, rc, rd, da, db, dc, dd, ea ▸ eb ▸ c0, eb ▸ ec ▸ c1, ec ▸ ed ▸ c2, ed ▸ hlt⟩

/-- A place is empty or holds a slot with that slot's distance. -/
theorem place {D : ℕ → EReal} {l n : ℕ} {v : EReal} {i : BitVec 32}
    (h : (toLex (v, i.toNat) : Key) = emp ∨ seen D l n (toLex (v, i.toNat))) :
    (v = ⊤ ∧ i.toNat = 2 ^ 30) ∨ (v = D i.toNat ∧ i.toNat < n ∧ D i.toNat < ⊤) := by
  rcases h with h | ⟨m, hm, -, hd, h⟩
  · exact .inl ⟨congrArg (fun x : Key => (ofLex x).1) h, congrArg (fun x : Key => (ofLex x).2) h⟩
  · have hi : i.toNat = m := congrArg (fun x : Key => (ofLex x).2) h
    have hv : v = D m := congrArg (fun x : Key => (ofLex x).1) h
    exact .inr ⟨hi ▸ hv, hi ▸ hm, hi ▸ hd⟩

end Lanes

end
-- ==== Proof.Step.lean ====
module

public import proofs.«01_k».proof.Proof.Planes
public import proofs.«01_k».proof.Proof.Lanes
public import proofs.«01_k».proof.Proof.Consts

@[expose] public section

/-! # What a block does to one lane of the planes -/

noncomputable section

namespace Cert.KernelIdeal.Step

open Cert.KernelIdeal Cert.KernelIdeal.Gen Cert.KernelIdeal.Planes Lanes
open Idealize.ShloMosaic Idealize.ShloMosaic.TcCoe

/-- Lane `l` of query `q` in the planes, after the slots below `n`. -/
def At (D : ℕ → EReal) (q : Fin 1024) (l : Fin 256) (n : ℕ) (p : Pl Ideal) : Prop :=
  Lane D l.val n (p.v0 (ix2 q l)) (p.v1 (ix2 q l)) (p.v2 (ix2 q l)) (p.v3 (ix2 q l))
    (p.i0 (ix2 q l)) (p.i1 (ix2 q l)) (p.i2 (ix2 q l)) (p.i3 (ix2 q l))

/-- One insertion advances the lane by one slot of its class. -/
theorem ins_at {D : ℕ → EReal} {q : Fin 1024} {l : Fin 256} {n : ℕ} {p : Pl Ideal} (h : At D q l n p) (hl : n % 256 = l.val)
    (e : FVec Ideal S1024x256 .f32) (he : e (ix2 q l) = D n) (k : IVec S1024x256 32) (hk : (k (ix2 q l)).toNat = n) :
    At D q l (n + 256) (ins e k p) := by
  have := Lane.insert h hl _ he _ hk
  unfold At
  have sel : ∀ {α : Type} (a b : EReal) (x y : α), Scalar.select (FloatOps.cmpf (F := Ideal) (φ := .f32) .olt a b) x y = if a < b then x else y :=
    fun a b x y => Consts.select_ofBool (a < b) x y
  have sel2 : ∀ {α : Type} (a b c : EReal) (x y z : α), Scalar.select (FloatOps.cmpf (F := Ideal) (φ := .f32) .olt a b)
      (Scalar.select (FloatOps.cmpf (F := Ideal) (φ := .f32) .olt a c) x y) z = if a < b then (if a < c then x else y) else z :=
    fun a b c x y z => by rw [sel, sel]
  have e0 : (ins e k p).v0 (ix2 q l) = _ := sel _ _ _ _
  have e1 : (ins e k p).v1 (ix2 q l) = _ := sel2 _ _ _ _ _ _
  have e2 : (ins e k p).v2 (ix2 q l) = _ := sel2 _ _ _ _ _ _
  have e3 : (ins e k p).v3 (ix2 q l) = _ := sel2 _ _ _ _ _ _
  have f0 : (ins e k p).i0 (ix2 q l) = _ := sel _ _ _ _
  have f1 : (ins e k p).i1 (ix2 q l) = _ := sel2 _ _ _ _ _ _
  have f2 : (ins e k p).i2 (ix2 q l) = _ := sel2 _ _ _ _ _ _
  have f3 : (ins e k p).i3 (ix2 q l) = _ := sel2 _ _ _ _ _ _
  rw [e0, e1, e2, e3, f0, f1, f2, f3]
  exact this

/-- The index of lane `l` in the slice at column `o` of block `a`. -/
theorem idx_at (a o : ℕ) (ha : a < 49) (ho : o < 2048) (q : Fin 1024) (l : Fin 256) :
    (idx (BitVec.ofNat 32 a) (BitVec.ofNat 32 o) (ix2 q l)).toNat = 2048 * a + o + l.val := by
  have h : idx (BitVec.ofNat 32 a) (BitVec.ofNat 32 o) (ix2 q l)
      = BitVec.ofNat 32 l.val + (BitVec.ofNat 32 a * 2048#32 + BitVec.ofNat 32 o) := by
    pointwise [idx]
    rfl
  have := l.isLt
  rw [h, BitVec.toNat_add, BitVec.toNat_add, BitVec.toNat_mul]
  simp only [BitVec.toNat_ofNat]
  omega

/-- A slice of the block's distances, at a query and lane. -/
theorem slice_at (d : FVec Ideal S1024x2048 .f32) (o : ℕ) (h : S1024x2048.Slices ![0, o] S1024x256) (q : Fin 1024) (l : Fin 256)
    (hb : o + l.val < 2048) :
    extractStridedSlice S1024x256 ![0, o] d h (ix2 q l) = d (ix2 q ⟨o + l.val, hb⟩) := by
  pointwise
  try rfl

/-- A block advances every lane by the block's eight slots of its class. -/
theorem step_at {D : ℕ → EReal} {q : Fin 1024} {l : Fin 256} {a : ℕ} (ha : a < 49) {p : Pl Ideal}
    (d : FVec Ideal S1024x2048 .f32) (hd : ∀ k : Fin 2048, d (ix2 q k) = D (2048 * a + k.val))
    (h : At D q l (2048 * a + l.val) p) : At D q l (2048 * (a + 1) + l.val) (step (BitVec.ofNat 32 a) d p) := by
  have hl := l.isLt
  have one : ∀ {p : Pl Ideal} (o : ℕ) (hs : S1024x2048.Slices ![0, o] S1024x256) (hb : o + l.val < 2048) (ho : o % 256 = 0)
      (_ : At D q l (2048 * a + o + l.val) p), At D q l (2048 * a + (o + 256) + l.val)
        (ins (extractStridedSlice S1024x256 ![0, o] d hs) (idx (BitVec.ofNat 32 a) (BitVec.ofNat 32 o)) p) := by
    intro p o hs hb ho h
    have := ins_at h (by omega) (extractStridedSlice S1024x256 ![0, o] d hs)
      (by rw [slice_at d o hs q l hb, hd]; exact congrArg D (by simp only; omega)) (idx (BitVec.ofNat 32 a) (BitVec.ofNat 32 o))
      (idx_at a o ha (by omega) q l)
    rwa [show 2048 * a + (o + 256) + l.val = 2048 * a + o + l.val + 256 by omega]
  have h0 := one 0 slices_S1024x2048_o0_0_S1024x256 (by omega) (by omega) h
  have h1 := one 256 slices_S1024x2048_o0_256_S1024x256 (by omega) (by omega) h0
  have h2 := one 512 slices_S1024x2048_o0_512_S1024x256 (by omega) (by omega) h1
  have h3 := one 768 slices_S1024x2048_o0_768_S1024x256 (by omega) (by omega) h2
  have h4 := one 1024 slices_S1024x2048_o0_1024_S1024x256 (by omega) (by omega) h3
  have h5 := one 1280 slices_S1024x2048_o0_1280_S1024x256 (by omega) (by omega) h4
  have h6 := one 1536 slices_S1024x2048_o0_1536_S1024x256 (by omega) (by omega) h5
  have h7 := one 1792 slices_S1024x2048_o0_1792_S1024x256 (by omega) (by omega) h6
  rw [show 2048 * (a + 1) + l.val = 2048 * a + (1792 + 256) + l.val by omega]
  exact h7

end Cert.KernelIdeal.Step

end
-- ==== Proof.Store.lean ====
module

public import proofs.«01_k».proof.Proof.Planes
public import proofs.«01_k».proof.Proof.Step
public import Idealize.ShloMosaic.Lib.Writes
public import Idealize.ShloMosaic.Lib.Pipeline.ReadBack
public import Idealize.ShloMosaic.Lib.Pipeline.Value

@[expose] public section

/-! # Planes stored and loaded back -/

noncomputable section

namespace Cert.KernelIdeal.Store

open Cert.KernelIdeal Cert.KernelIdeal.Gen Cert.KernelIdeal.Body Cert.KernelIdeal.Planes Lanes
open Idealize.ShloMosaic Idealize.ShloMosaic.TcCoe

/-- Four planes written to a list buffer are read back plane by plane, whatever was written before. -/
theorem read_planes {e : EltTy} {M : Memref sig .tc .vmem S1024x1024 e} (f : M.view.ty.Contents (Elt Ideal))
    (w0 w1 w2 w3 : S1024x256.Idx → Elt Ideal e) (L : List (View.Piece (Elt Ideal) S1024x1024 e)) (g : M.view.ty.Contents (Elt Ideal))
    (hg : g = M.view.writes (Elt Ideal) f (⟨pr3, w3⟩ :: ⟨pr2, w2⟩ :: ⟨pr1, w1⟩ :: ⟨pr0, w0⟩ :: L)) :
    M.view.readAt (Elt Ideal) pr0.toLoadRect g = w0 ∧ M.view.readAt (Elt Ideal) pr1.toLoadRect g = w1
    ∧ M.view.readAt (Elt Ideal) pr2.toLoadRect g = w2 ∧ M.view.readAt (Elt Ideal) pr3.toLoadRect g = w3 := by
  subst hg
  have hc (r : Rect S1024x1024) (o : ℕ) (x : r.shape.Idx) (ho : r.off 1 = o) (hs : r.stride 1 = 1) :
      (r.toLoadRect.idx x 1).val = o + (x 1).val := by
    show r.off 1 + r.stride 1 * (x 1).val = _
    rw [ho, hs, one_mul]
  refine ⟨funext fun x => ?_, funext fun x => ?_, funext fun x => ?_, funext fun x => ?_⟩
  · have h := hc pr0 0 x rfl rfl
    have hx : (x 1).val < 256 := (x 1).isLt
    rw [View.readAt_apply, View.read_writes_cons_miss_of_axis _ _ _ _ _ 1 768 256 rfl rfl rfl (by omega),
      View.read_writes_cons_miss_of_axis _ _ _ _ _ 1 512 256 rfl rfl rfl (by omega),
      View.read_writes_cons_miss_of_axis _ _ _ _ _ 1 256 256 rfl rfl rfl (by omega)]
    exact View.read_writes_cons_emb _ _ pr0 w0 _ x
  · have h := hc pr1 256 x rfl rfl
    have hx : (x 1).val < 256 := (x 1).isLt
    rw [View.readAt_apply, View.read_writes_cons_miss_of_axis _ _ _ _ _ 1 768 256 rfl rfl rfl (by omega),
      View.read_writes_cons_miss_of_axis _ _ _ _ _ 1 512 256 rfl rfl rfl (by omega)]
    exact View.read_writes_cons_emb _ _ pr1 w1 _ x
  · have h := hc pr2 512 x rfl rfl
    have hx : (x 1).val < 256 := (x 1).isLt
    rw [View.readAt_apply, View.read_writes_cons_miss_of_axis _ _ _ _ _ 1 768 256 rfl rfl rfl (by omega)]
    exact View.read_writes_cons_emb _ _ pr2 w2 _ x
  · rw [View.readAt_apply]
    exact View.read_writes_cons_emb _ _ pr3 w3 _ x

variable (c : Dev nD) (M4 : Memref sig .tc .vmem S1024x1024 .f32) (M5 : Memref sig .tc .vmem S1024x1024 .i32)
    (f4 : Bf (F := Ideal) c M4) (f5 : Bf (F := Ideal) c M5)

/-- Planes stored are loaded back. -/
theorem load_store (p : Pl Ideal) : Planes.load c M4 M5 (storeV c M4 f4 p) (storeI c M5 f5 p) = p := by
  obtain ⟨a0, a1, a2, a3⟩ := read_planes (M := M4) f4 _ _ _ _ _ (storeV c M4 f4 p) rfl
  obtain ⟨b0, b1, b2, b3⟩ := read_planes (M := M5) f5 _ _ _ _ _ (storeI c M5 f5 p) rfl
  unfold Planes.load
  rw [a0, a1, a2, a3, b0, b1, b2, b3]
  simp only [shapeCast_self]

/-- Planes stored over the initial fill are loaded back. -/
theorem load_store0 (p : Pl Ideal) : Planes.load c M4 M5 (storeV0 c M4 f4 p) (storeI0 c M5 f5 p) = p := by
  obtain ⟨a0, a1, a2, a3⟩ := read_planes (M := M4) f4 _ _ _ _ _ (storeV0 c M4 f4 p) rfl
  obtain ⟨b0, b1, b2, b3⟩ := read_planes (M := M5) f5 _ _ _ _ _ (storeI0 c M5 f5 p) rfl
  unfold Planes.load
  rw [a0, a1, a2, a3, b0, b1, b2, b3]
  simp only [shapeCast_self]

/-- The initial planes hold no slot. -/
theorem load0_at (D : ℕ → EReal) (q : Fin 1024) (l : Fin 256) : Step.At D q l (2048 * 0 + l.val) (load0 (F := Ideal) M4 M5) := by
  have hv (r : Rect S1024x1024) (x : r.shape.Idx) : (M4.view.readCov (Val := Elt Ideal)
      [⟨Rect.unit (s := S1024x1024) ![0, 0] S1024x1024.size inb_S1024x1024_S1024x1024_0_0, k0_pay11 (F := Ideal)⟩] r.toLoadRect) x = (⊤ : EReal) := by
    rw [View.readCov_fill _ _ _ _ r (by decide)]
    exact Consts.top
  have hi (r : Rect S1024x1024) (x : r.shape.Idx) : (M5.view.readCov (Val := Elt Ideal)
      [⟨Rect.unit (s := S1024x1024) ![0, 0] S1024x1024.size inb_S1024x1024_S1024x1024_0_0, k0_pay12⟩] r.toLoadRect) x = (1073741824#32 : BitVec 32) := by
    rw [View.readCov_fill _ _ _ _ r (by decide)]
    rfl
  unfold Step.At load0
  dsimp only
  have e := Lane.empty D l.val l.isLt
  rw [show 2048 * 0 + l.val = l.val by omega]
  exact (by rw [hv, hv, hv, hv, hi, hi, hi, hi]; exact e)

/-- An input block the body loads whole. -/
theorem load_whole {S : Shape} {e : EltTy} (M : Memref sig .tc .vmem S e) (f : M.view.ty.Contents (Elt Ideal)) (off : Fin S.rank → ℕ)
    (inb : ∀ a, off a + S.size a ≤ S.size a) (h : off = fun _ => 0) :
    M.view.readAt (Elt Ideal) (Rect.unit (s := S) off S.size inb).toLoadRect f = M.view.read (Elt Ideal) f :=
  View.ld_unit_zero h inb (M.view.read (Elt Ideal) f)

end Cert.KernelIdeal.Store

end
-- ==== Proof.Blocks.lean ====
module

public import proofs.«01_k».proof.Proof.Region
public import proofs.«01_k».proof.Proof.Dist
public import proofs.«01_k».proof.Proof.Store
public import Idealize.ShloMosaic.Lib.Pipeline.ValueKit

@[expose] public section

/-! # The blocks a point reads, and the distances it computes from them -/

noncomputable section

namespace Cert.KernelIdeal.Blocks

open Cert.KernelIdeal Cert.KernelIdeal.Gen Cert.KernelIdeal.Body Cert.KernelIdeal.Region
open Idealize.ShloMosaic Idealize.ShloMosaic.TcCoe

variable (m : (ℓ : Loc nD τ sig) → Buf (Elt Ideal) ℓ) (c : Dev nD)

/-- The queries: the four parts side by side. -/
def qs : FVec Ideal S1024x256 .f32 :=
  concatenate S1024x256 1 [⟨S1024x64, (m ((c.tc : Thread nD τ).loc main_arg0) : FVec Ideal S1024x64 .f32)⟩,
    ⟨S1024x64, (m ((c.tc : Thread nD τ).loc main_arg1) : FVec Ideal S1024x64 .f32)⟩,
    ⟨S1024x64, (m ((c.tc : Thread nD τ).loc main_arg2) : FVec Ideal S1024x64 .f32)⟩,
    ⟨S1024x64, (m ((c.tc : Thread nD τ).loc main_arg3) : FVec Ideal S1024x64 .f32)⟩] concatenates_S1024x64_S1024x64_S1024x64_S1024x64_S1024x256_d1

/-- The stored rows. -/
def ys : FVec Ideal S100000x256 .f32 := m ((c.tc : Thread nD τ).loc main_arg4)

/-- The distances of query `q` to every slot. -/
def D (q : Fin 1024) (n : ℕ) : EReal := slots (fun l => qs m c (ix2 q l)) (fun n l => ys m c (ix2 n l)) n

/-- The region finds the queries as the host put them together. -/
theorem V_qs : V m c main_v0 = qs m c := by
  entry_read
  rfl

/-- The grid coordinate of a point is its number. -/
theorem coord_val (t : Fin grid0.N) : (grid0.coords t 0).val = t.val := by
  revert t; decide

/-- The query block at every point is the whole array. -/
theorem iblk0_at (t : Fin grid0.N) (q : Fin 1024) (l : Fin 256) : iblk m c 0 t (ix2 q l) = qs m c (ix2 q l) := by
  blk_simp [iblk]
  rw [← V_qs]
  refine congrArg (V m c main_v0) ?_
  have e0 : win0_0.index t 0 = 0 := rfl
  have e1 : win0_0.index t 1 = 0 := rfl
  blk_ext [e0, e1]

/-- The data block's index is the point's number. -/
theorem index1 (t : Fin grid0.N) : win0_1.index t 0 = t.val := by
  revert t; decide

/-- How many rows of the data block lie inside the array. -/
theorem xsize1 (t : Fin grid0.N) : win0_1.xsize (grid0.coords t) 0 = min 2048 (100000 - 2048 * t.val) := by
  revert t; decide

/-- A row of the data block inside the array is the array's. -/
theorem blk1_at (t : Fin grid0.N) (d : S2048x256.Idx → EReal) (k : Fin 2048) (l : Fin 256) (h : 2048 * t.val + k.val < 100000) :
    blk1 m c t d (ix2 k l) = ys m c (ix2 ⟨2048 * t.val + k.val, h⟩ l) := by
  unfold blk1 Pipeline.Window.fill
  rw [dif_pos]
  · have e0 : win0_1.index t 0 = t.val := index1 t
    have e1 : win0_1.index t 1 = 0 := rfl
    unfold ys
    rw [← V_main_arg4 m c]
    blk_simp [iblk]
    refine congrArg (V m c main_arg4) ?_
    blk_ext [e0, e1]
  · rw [Pipeline.Window.moved_iff]
    intro a
    match a with
    | 0 =>
      show k.val < win0_1.xsize (grid0.coords t) 0
      rw [xsize1]
      have := k.isLt
      omega
    | 1 => exact l.isLt

variable (t : Fin grid0.N) (M1 : Memref sig .tc .vmem S1024x256 .f32) (M2 : Memref sig .tc .vmem S2048x256 .f32)
    (f1 : Bf (F := Ideal) c M1) (f2 : Bf (F := Ideal) c M2) (d : S2048x256.Idx → EReal)

/-- The distances a point computes are those of the slots of its block. -/
theorem dst_at (e1 : M1.view.read (Elt Ideal) f1 = iblk m c 0 t) (e2 : M2.view.read (Elt Ideal) f2 = blk1 m c t d)
    (q : Fin 1024) (k : Fin 2048) :
    Planes.dst c (grid0.coords t) M1 M2 f1 f2 (ix2 q k) = D m c q (2048 * t.val + k.val) := by
  have l1 := (Store.load_whole M1 f1 ![0, 0] inb_S1024x256_S1024x256_0_0 (by decide)).trans e1
  have l2 := (Store.load_whole M2 f2 ![0, 0] inb_S2048x256_S2048x256_0_0 (by decide)).trans e2
  unfold Planes.dst
  rw [l1, l2, Dist.pay13_apply, coord_val]
  unfold D slots
  by_cases h : 2048 * t.val + k.val < 100000
  · rw [if_pos h, dif_pos h]
    exact congrArg₂ rowDist (funext fun l => iblk0_at m c t q l) (funext fun l => blk1_at m c t d k l h)
  · rw [if_neg h, dif_neg h]

end Cert.KernelIdeal.Blocks

end
-- ==== Proof.Select.lean ====
module

public import proofs.«01_k».proof.Proof.Lanes
public import Idealize.ShloMosaic.PureOps.Ideal.Laws

@[expose] public section

/-!
# The ten selection rounds

Given candidates that contain every one of the ten nearest slots, each round finds the nearest slot not yet masked.
-/

namespace Select

open Lanes Idealize.ShloMosaic

/-- `ns` lists the ten nearest slots under `D` in key order. -/
structure Nearest (D : ℕ → EReal) (ns : Fin 10 → ℕ) : Prop where
  bd : ∀ t, ns t < 100000
  fin : ∀ t, D (ns t) < ⊤
  mono : ∀ s t, s < t → key D (ns s) < key D (ns t)
  least : ∀ m, D m < ⊤ → (∀ t, ns t ≠ m) → ∀ t, key D (ns t) < key D m

/-- At most four of the ten share a residue class modulo 256. -/
def Few (ns : Fin 10 → ℕ) : Prop := ∀ t, (Finset.univ.filter fun s => ns s % 256 = ns t % 256).card ≤ 4

/-- The ten are distinct slots. -/
theorem Nearest.inj {D : ℕ → EReal} {ns : Fin 10 → ℕ} (h : Nearest D ns) {s t : Fin 10} (e : ns s = ns t) : s = t := by
  rcases lt_trichotomy s t with q | q | q
  · exact absurd (h.mono s t q) (by rw [e]; exact lt_irrefl _)
  · exact q
  · exact absurd (h.mono t s q) (by rw [e]; exact lt_irrefl _)

/-- A slot nearer than one of the ten is one of the ten. -/
theorem Nearest.mem {D : ℕ → EReal} {ns : Fin 10 → ℕ} (h : Nearest D ns) {m : ℕ} (hm : D m < ⊤) {t : Fin 10}
    (hlt : key D m < key D (ns t)) : ∃ s, ns s = m := by
  by_contra hc
  push Not at hc
  exact absurd (hlt.trans (h.least m hm hc t)) (lt_irrefl _)

/-- A lane of few of the ten holds every one of the ten in its class. -/
theorem Nearest.held {D : ℕ → EReal} {ns : Fin 10 → ℕ} (h : Nearest D ns) (hf : Few ns) {l n : ℕ} {v0 v1 v2 v3 : EReal}
    {i0 i1 i2 i3 : BitVec 32} (hL : Lane D l n v0 v1 v2 v3 i0 i1 i2 i3) (t : Fin 10) (hn : ns t < n) (hl : ns t % 256 = l) :
    i0.toNat = ns t ∨ i1.toNat = ns t ∨ i2.toNat = ns t ∨ i3.toNat = ns t := by
  by_contra hc
  simp only [not_or] at hc
  obtain ⟨a, b, c, d, ra, rb, rc, rd, da, db, dc, dd, ab, bc, cd, dm⟩ :=
    hL.four hn hl (h.fin t) hc.1 hc.2.1 hc.2.2.1 hc.2.2.2
  obtain ⟨sa, rfl⟩ := h.mem da (ab.trans (bc.trans (cd.trans dm)))
  obtain ⟨sb, rfl⟩ := h.mem db (bc.trans (cd.trans dm))
  obtain ⟨sc, rfl⟩ := h.mem dc (cd.trans dm)
  obtain ⟨sd, rfl⟩ := h.mem dd dm
  have ne : ∀ {x y : Fin 10}, key D (ns x) < key D (ns y) → x ≠ y := by
    rintro x y q rfl
    exact lt_irrefl _ q
  have hsub : ({sa, sb, sc, sd, t} : Finset (Fin 10)) ⊆ Finset.univ.filter fun s => ns s % 256 = ns t % 256 := by
    intro x hx
    simp only [Finset.mem_insert, Finset.mem_singleton] at hx
    simp only [Finset.mem_filter, Finset.mem_univ, true_and]
    rcases hx with rfl | rfl | rfl | rfl | rfl <;> omega
  have hcard : ({sa, sb, sc, sd, t} : Finset (Fin 10)).card = 5 := by
    have h1 := ne ab
    have h2 := ne (ab.trans bc)
    have h3 := ne (ab.trans (bc.trans cd))
    have h4 := ne (ab.trans (bc.trans (cd.trans dm)))
    have h5 := ne bc
    have h6 := ne (bc.trans cd)
    have h7 := ne (bc.trans (cd.trans dm))
    have h8 := ne cd
    have h9 := ne (cd.trans dm)
    have h10 := ne dm
    rw [Finset.card_insert_of_notMem, Finset.card_insert_of_notMem, Finset.card_insert_of_notMem,
      Finset.card_insert_of_notMem, Finset.card_singleton] <;>
    simp only [Finset.mem_insert, Finset.mem_singleton, not_or] <;>
    first | exact ⟨h1, h2, h3, h4⟩ | exact ⟨h5, h6, h7⟩ | exact ⟨h8, h9⟩ | exact h10
  have := Finset.card_le_card hsub
  have := hf t
  omega

/-- The fold of the signed minimum from the largest integer, over non-negative integers one of which is `n` and none
of which is below `n`, is `n`. -/
theorem fold_minsi {α : Type} [DecidableEq α] (s : Finset α) (f : α → BitVec 32) (n : ℕ)
    (hb : ∀ x ∈ s, n ≤ (f x).toNat ∧ (f x).toNat < 2 ^ 31) (hx : ∃ x ∈ s, (f x).toNat = n) :
    (s.fold IKind.minsi.op 2147483647#32 f).toNat = n := by
  have key : ∀ s : Finset α, (∀ x ∈ s, n ≤ (f x).toNat ∧ (f x).toNat < 2 ^ 31) →
      (s.fold IKind.minsi.op 2147483647#32 f).toNat < 2 ^ 31 ∧
      (∀ x ∈ s, (s.fold IKind.minsi.op 2147483647#32 f).toNat ≤ (f x).toNat) ∧
      (s.fold IKind.minsi.op 2147483647#32 f = 2147483647#32 ∨ ∃ x ∈ s, s.fold IKind.minsi.op 2147483647#32 f = f x) := by
    intro s
    induction s using Finset.induction_on with
    | empty => intro _; simp
    | insert a s ha ih =>
      intro hb
      obtain ⟨i1, i2, i3⟩ := ih fun x hx => hb x (Finset.mem_insert_of_mem hx)
      rw [Finset.fold_insert ha]
      generalize hg : s.fold IKind.minsi.op 2147483647#32 f = g at i1 i2 i3
      have hfa := (hb a (Finset.mem_insert_self a s)).2
      have hop : IKind.minsi.op (f a) g = if (f a).toNat < g.toNat then f a else g := by
        show IntOp.minsi (f a) g = _
        unfold IntOp.minsi
        have : (f a).slt g = decide ((f a).toNat < g.toNat) := by
          rw [BitVec.slt, BitVec.toInt_eq_toNat_of_lt (by omega), BitVec.toInt_eq_toNat_of_lt (by omega)]
          simp
        rw [this]
        simp
      rw [hop]
      by_cases hlt : (f a).toNat < g.toNat
      · simp only [hlt, if_true]
        refine ⟨hfa, fun x hx => ?_, .inr ⟨a, Finset.mem_insert_self a s, rfl⟩⟩
        rcases Finset.mem_insert.1 hx with rfl | hx
        · exact le_rfl
        · exact hlt.le.trans (i2 x hx)
      · simp only [hlt, if_false]
        refine ⟨i1, fun x hx => ?_, ?_⟩
        · rcases Finset.mem_insert.1 hx with rfl | hx
          · omega
          · exact i2 x hx
        · rcases i3 with h | ⟨x, hx, h⟩
          · exact .inl h
          · exact .inr ⟨x, Finset.mem_insert_of_mem hx, h⟩
  obtain ⟨h1, h2, h3⟩ := key s hb
  obtain ⟨x, hxs, hxn⟩ := hx
  have hle := h2 x hxs
  rcases h3 with h | ⟨y, hy, h⟩
  · rw [h] at hle ⊢
    have := (hb x hxs).2
    simp at hle ⊢
    omega
  · have := (hb y hy).1
    rw [h] at hle ⊢
    omega

section
variable {α : Type} [Fintype α]

/-- The candidates `V`, `I` of one query: each empty or a slot with its distance, and all of the ten among them. -/
structure Cand (D : ℕ → EReal) (ns : Fin 10 → ℕ) (V : α → EReal) (I : α → BitVec 32) : Prop where
  place : ∀ x, (V x = ⊤ ∧ (I x).toNat = 2 ^ 30) ∨ (V x = D (I x).toNat ∧ (I x).toNat < 2 ^ 30 ∧ D (I x).toNat < ⊤)
  all : ∀ t, ∃ x, (I x).toNat = ns t

/-- The candidates' values once the first `t` of the ten are masked. -/
noncomputable def masked (ns : Fin 10 → ℕ) (V : α → EReal) (I : α → BitVec 32) (t : ℕ) (x : α) : EReal :=
  open Classical in if ∃ s : Fin 10, s.val < t ∧ (I x).toNat = ns s then ⊤ else V x

/-- Before the first round nothing is masked. -/
theorem masked_zero (ns : Fin 10 → ℕ) (V : α → EReal) (I : α → BitVec 32) : masked ns V I 0 = V := by
  funext x
  unfold masked
  rw [if_neg]
  rintro ⟨s, hs, -⟩
  omega

variable {D : ℕ → EReal} {ns : Fin 10 → ℕ} {V : α → EReal} {I : α → BitVec 32}

/-- Masking the next of the ten. -/
theorem masked_succ (t : Fin 10) (x : α) :
    masked ns V I (t.val + 1) x = if (I x).toNat = ns t then ⊤ else masked ns V I t.val x := by
  unfold masked
  by_cases h : (I x).toNat = ns t
  · rw [if_pos ⟨t, by omega, h⟩, if_pos h]
  · rw [if_neg h]
    by_cases h' : ∃ s : Fin 10, s.val < t.val ∧ (I x).toNat = ns s
    · rw [if_pos h']
      obtain ⟨s, hs, e⟩ := h'
      exact if_pos ⟨s, by omega, e⟩
    · rw [if_neg h', if_neg]
      rintro ⟨s, hs, e⟩
      rcases Nat.lt_succ_iff_lt_or_eq.1 hs with q | q
      · exact h' ⟨s, q, e⟩
      · exact h (e.trans (congrArg ns (Fin.ext q)))

/-- A slot of the ten is not yet masked in its own round. -/
theorem masked_self (hN : Nearest D ns) (hC : Cand D ns V I) (t : Fin 10) (x : α) (hx : (I x).toNat = ns t) :
    masked ns V I t.val x = D (ns t) ∧ (ns t) < 2 ^ 30 := by
  unfold masked
  rw [if_neg]
  · rcases hC.place x with ⟨hv, hi⟩ | ⟨hv, hi, -⟩
    · have := hN.bd t
      omega
    · exact ⟨hx ▸ hv, hx ▸ hi⟩
  · rintro ⟨s, hs, e⟩
    have := hN.inj (e.symm.trans hx)
    omega

/-- An unmasked candidate is at or after the next of the ten. -/
theorem masked_ge (hN : Nearest D ns) (hC : Cand D ns V I) (t : Fin 10) (x : α) :
    masked ns V I t.val x = ⊤ ∨ (masked ns V I t.val x = D (I x).toNat ∧ (I x).toNat < 2 ^ 30 ∧
      key D (ns t) ≤ key D (I x).toNat) := by
  unfold masked
  by_cases h : ∃ s : Fin 10, s.val < t.val ∧ (I x).toNat = ns s
  · exact .inl (if_pos h)
  rw [if_neg h]
  rcases hC.place x with ⟨hv, -⟩ | ⟨hv, hi, hd⟩
  · exact .inl hv
  refine .inr ⟨hv, hi, ?_⟩
  by_cases hm : ∃ s, ns s = (I x).toNat
  · obtain ⟨s, hs⟩ := hm
    have : ¬ s < t := fun q => h ⟨s, q, hs.symm⟩
    rcases eq_or_lt_of_le (not_lt.1 this) with q | q
    · rw [q, hs]
    · rw [← hs]; exact (hN.mono t s q).le
  · push Not at hm
    exact (hN.least _ hd hm t).le

/-- The least value left is the next of the ten's distance. -/
theorem fold_min (hN : Nearest D ns) (hC : Cand D ns V I) (t : Fin 10) :
    (Finset.univ : Finset α).fold min ⊤ (masked ns V I t.val) = D (ns t) := by
  apply le_antisymm
  · rw [Finset.fold_min_le]
    obtain ⟨x, hx⟩ := hC.all t
    exact .inr ⟨x, Finset.mem_univ x, (masked_self hN hC t x hx).1.le⟩
  · rw [Finset.le_fold_min]
    refine ⟨le_top, fun x _ => ?_⟩
    rcases masked_ge hN hC t x with h | ⟨h, -, hk⟩
    · rw [h]; exact le_top
    · rw [h]
      unfold key at hk
      rcases Prod.Lex.toLex_le_toLex.1 hk with q | q
      exacts [q.le, q.1.le]

/-- The least index of that value is the next of the ten. -/
theorem fold_index [DecidableEq α] (hN : Nearest D ns) (hC : Cand D ns V I) (t : Fin 10) (g : α → BitVec 32)
    (hg : ∀ x, g x = open Classical in if masked ns V I t.val x = D (ns t) then I x else 1073741824#32) :
    ((Finset.univ : Finset α).fold IKind.minsi.op 2147483647#32 g).toNat = ns t := by
  obtain ⟨x0, hx0⟩ := hC.all t
  have hs := masked_self hN hC t x0 hx0
  refine fold_minsi _ _ _ (fun x _ => ?_) ⟨x0, Finset.mem_univ _, ?_⟩
  · rw [hg]
    split_ifs with h
    · rcases masked_ge hN hC t x with q | ⟨q, hi, hk⟩
      · exact absurd (h.symm.trans q) (hN.fin t).ne
      · refine ⟨?_, by omega⟩
        unfold key at hk
        rcases Prod.Lex.toLex_le_toLex.1 hk with r | r
        · exact absurd (h.symm.trans q) r.ne
        · exact r.2
    · simp; omega
  · rw [hg, if_pos hs.1, hx0]

end

end Select

end
-- ==== Proof.Rounds.lean ====
module

public import proofs.«01_k».proof.Proof.Step
public import proofs.«01_k».proof.Proof.Select

@[expose] public section

/-! # What the last point's ten rounds write for one query -/

noncomputable section

namespace Cert.KernelIdeal.Rounds

open Cert.KernelIdeal Cert.KernelIdeal.Gen Cert.KernelIdeal.Planes Lanes
open Idealize.ShloMosaic Idealize.ShloMosaic.TcCoe

/-- A fold over the first `n` numbers keeps an invariant every step carries one further. -/
theorem foldl_inv {σ : Type} {n : ℕ} (g : Fin n → σ → σ) (init : σ) (Inv : ℕ → σ → Prop) (h0 : Inv 0 init)
    (hs : ∀ (k : Fin n) s, Inv k.val s → Inv (k.val + 1) (g k s)) : Inv n (Scf.fold g init) := by
  rw [Scf.fold_eq]
  have key : ∀ m, m ≤ n → Inv m (((List.finRange n).take m).foldl (fun acc k => g k acc) init) := by
    intro m
    induction m with
    | zero => intro _; simpa using h0
    | succ m ih =>
      intro hm
      have hlt : m < (List.finRange n).length := by rw [List.length_finRange]; omega
      rw [List.take_succ_eq_append_getElem hlt, List.foldl_append]
      have := hs ⟨m, hm⟩ _ (ih (by omega))
      simpa using this
  have := key n le_rfl
  rwa [List.take_of_length_le (by rw [List.length_finRange])] at this

variable (p : Pl Ideal) (q : Fin 1024)

/-- The candidates' values of query `q`. -/
def V (x : Fin 1024) : EReal := k0_pay4 p.v3 p.v2 p.v1 p.v0 (ix2 q x)

/-- The candidates' indices of query `q`. -/
def I (x : Fin 1024) : BitVec 32 := k0_pay5 p.i3 p.i2 p.i1 p.i0 (ix2 q x)

/-- The candidates are the four planes one after the other. -/
theorem cand_at (l : Fin 256) :
    (V p q ⟨l.val, by omega⟩ = p.v0 (ix2 q l) ∧ I p q ⟨l.val, by omega⟩ = p.i0 (ix2 q l)) ∧
    (V p q ⟨256 + l.val, by omega⟩ = p.v1 (ix2 q l) ∧ I p q ⟨256 + l.val, by omega⟩ = p.i1 (ix2 q l)) ∧
    (V p q ⟨512 + l.val, by omega⟩ = p.v2 (ix2 q l) ∧ I p q ⟨512 + l.val, by omega⟩ = p.i2 (ix2 q l)) ∧
    (V p q ⟨768 + l.val, by omega⟩ = p.v3 (ix2 q l) ∧ I p q ⟨768 + l.val, by omega⟩ = p.i3 (ix2 q l)) := by
  unfold V I
  refine ⟨⟨?_, ?_⟩, ⟨?_, ?_⟩, ⟨?_, ?_⟩, ⟨?_, ?_⟩⟩
  · pointwise [k0_pay4]
  · pointwise [k0_pay5]
  · pointwise [k0_pay4]
  · pointwise [k0_pay5]
  · pointwise [k0_pay4]
    rw [dif_neg (by omega), dif_neg (by omega), dif_pos (by omega)]
    exact congrArg (fun x => p.v2 (ix2 q x)) (Fin.ext (by simp only; omega))
  · pointwise [k0_pay5]
    rw [dif_neg (by omega), dif_neg (by omega), dif_pos (by omega)]
    exact congrArg (fun x => p.i2 (ix2 q x)) (Fin.ext (by simp only; omega))
  · pointwise [k0_pay4]
    rw [dif_neg (by omega), dif_neg (by omega), dif_neg (by omega)]
    exact congrArg (fun x => p.v3 (ix2 q x)) (Fin.ext (by simp only; omega))
  · pointwise [k0_pay5]
    rw [dif_neg (by omega), dif_neg (by omega), dif_neg (by omega)]
    exact congrArg (fun x => p.i3 (ix2 q x)) (Fin.ext (by simp only; omega))

/-- Every candidate stands in one of the four planes. -/
theorem cand_cases (P : EReal → BitVec 32 → Prop) (h : ∀ l : Fin 256, P (p.v0 (ix2 q l)) (p.i0 (ix2 q l)) ∧
    P (p.v1 (ix2 q l)) (p.i1 (ix2 q l)) ∧ P (p.v2 (ix2 q l)) (p.i2 (ix2 q l)) ∧ P (p.v3 (ix2 q l)) (p.i3 (ix2 q l)))
    (x : Fin 1024) : P (V p q x) (I p q x) := by
  obtain ⟨x, hx⟩ := x
  have hl : x % 256 < 256 := Nat.mod_lt _ (by omega)
  have hc := cand_at p q ⟨x % 256, hl⟩
  have hh := h ⟨x % 256, hl⟩
  have : x = x % 256 ∨ x = 256 + x % 256 ∨ x = 512 + x % 256 ∨ x = 768 + x % 256 := by omega
  rcases this with e | e | e | e
  · rw [show (⟨x, hx⟩ : Fin 1024) = ⟨x % 256, by omega⟩ from Fin.ext e, hc.1.1, hc.1.2]; exact hh.1
  · rw [show (⟨x, hx⟩ : Fin 1024) = ⟨256 + x % 256, by omega⟩ from Fin.ext e, hc.2.1.1, hc.2.1.2]; exact hh.2.1
  · rw [show (⟨x, hx⟩ : Fin 1024) = ⟨512 + x % 256, by omega⟩ from Fin.ext e, hc.2.2.1.1, hc.2.2.1.2]; exact hh.2.2.1
  · rw [show (⟨x, hx⟩ : Fin 1024) = ⟨768 + x % 256, by omega⟩ from Fin.ext e, hc.2.2.2.1, hc.2.2.2.2]; exact hh.2.2.2

variable {p q} {D : ℕ → EReal} {ns : Fin 10 → ℕ}

/-- After the last block the candidates hold all of the ten nearest slots, if few of them share a class. -/
theorem cand (hN : Select.Nearest D ns) (hf : Select.Few ns) (hp : ∀ l, Step.At D q l (100352 + l.val) p) :
    Select.Cand D ns (V p q) (I p q) := by
  constructor
  · refine cand_cases p q (fun v i => (v = ⊤ ∧ i.toNat = 2 ^ 30) ∨ (v = D i.toNat ∧ i.toNat < 2 ^ 30 ∧ D i.toNat < ⊤)) fun l => ?_
    have hl := l.isLt
    have h := hp l
    have w : ∀ {v : EReal} {i : BitVec 32}, (v = ⊤ ∧ i.toNat = 2 ^ 30) ∨ (v = D i.toNat ∧ i.toNat < 100352 + l.val ∧ D i.toNat < ⊤) →
        (v = ⊤ ∧ i.toNat = 2 ^ 30) ∨ (v = D i.toNat ∧ i.toNat < 2 ^ 30 ∧ D i.toNat < ⊤) :=
      fun h => h.imp_right fun h => ⟨h.1, by omega, h.2.2⟩
    exact ⟨w (place h.m0), w (place h.m1), w (place h.m2), w (place h.m3)⟩
  · intro t
    have hb := hN.bd t
    have hl : ns t % 256 < 256 := Nat.mod_lt _ (by omega)
    have hc := cand_at p q ⟨ns t % 256, hl⟩
    rcases hN.held hf (hp ⟨ns t % 256, hl⟩) t (by simp only; omega) rfl with e | e | e | e
    · exact ⟨_, by rw [hc.1.2]; exact e⟩
    · exact ⟨_, by rw [hc.2.1.2]; exact e⟩
    · exact ⟨_, by rw [hc.2.2.1.2]; exact e⟩
    · exact ⟨_, by rw [hc.2.2.2.2]; exact e⟩

/-- The index a round finds, when the values it starts from are those with the first `t` of the ten masked. -/
theorem pay7_at (hN : Select.Nearest D ns) (hC : Select.Cand D ns (V p q) (I p q)) (t : Fin 10) (cv : FVec Ideal S1024x1024 .f32)
    (hcv : ∀ x, cv (ix2 q x) = Select.masked ns (V p q) (I p q) t.val x) :
    (k0_pay7 p.i3 p.i2 p.i1 p.i0 cv (ix2 q 0)).toNat = ns t := by
  have hr : k0_pay7 p.i3 p.i2 p.i1 p.i0 cv (ix2 q 0) = (Finset.univ : Finset (Fin 1024)).fold IntOp.minsi 2147483647#32 fun x =>
      if cv (ix2 q x) = (Finset.univ : Finset (Fin 1024)).fold min (Ideal.ofBits FTy.f32 2139095040#32) (fun x => cv (ix2 q x)) then
        k0_pay5 p.i3 p.i2 p.i1 p.i0 (ix2 q x) else 1073741824#32 := by
    pointwise [k0_pay7]
  rw [hr]
  refine Select.fold_index hN hC t _ fun x => ?_
  have hm : (Finset.univ : Finset (Fin 1024)).fold min (Ideal.ofBits FTy.f32 2139095040#32) (fun x => cv (ix2 q x)) = D (ns t) := by
    rw [Consts.top, funext hcv]
    exact Select.fold_min hN hC t
  rw [hm, hcv]
  by_cases h : Select.masked ns (V p q) (I p q) t.val x = D (ns t)
  · rw [if_pos h, if_pos h]; rfl
  · rw [if_neg h, if_neg h]

/-- The state after `t` rounds: the first `t` of the ten masked and recorded. -/
def After (p : Pl Ideal) (q : Fin 1024) (ns : Fin 10 → ℕ) (t : ℕ) (st : FVec Ideal S1024x1024 .f32 × IVec S1024x128 32) : Prop :=
  (∀ x, st.1 (ix2 q x) = Select.masked ns (V p q) (I p q) t x) ∧
    ∀ s : Fin 10, s.val < t → (st.2 (ix2 q ⟨s.val, by omega⟩)).toNat = ns s

/-- One round carries the state one further. -/
theorem round_after (hN : Select.Nearest D ns) (hC : Select.Cand D ns (V p q) (I p q)) (t : Fin k0_t1_loop.trips)
    (st : FVec Ideal S1024x1024 .f32 × IVec S1024x128 32) (h : After p q ns t.val st) :
    After p q ns (t.val + 1) (selRound p t st) := by
  have ht : t.val < 10 := t.isLt
  have h7 := pay7_at hN hC ⟨t.val, ht⟩ st.1 h.1
  constructor
  · intro x
    have hr : (selRound p t st).1 (ix2 q x) = Scalar.select
        (IntOp.cmpi CmpIPredicate.eq (k0_pay5 p.i3 p.i2 p.i1 p.i0 (ix2 q x)) (k0_pay7 p.i3 p.i2 p.i1 p.i0 st.1 (ix2 q 0)))
        (Ideal.ofBits FTy.f32 2139095040#32) (st.1 (ix2 q x)) := by
      pointwise [selRound, k0_pay9]
    have hb : IntOp.cmpi CmpIPredicate.eq (k0_pay5 p.i3 p.i2 p.i1 p.i0 (ix2 q x)) (k0_pay7 p.i3 p.i2 p.i1 p.i0 st.1 (ix2 q 0))
        = BitVec.ofBool (decide ((I p q x).toNat = ns ⟨t.val, ht⟩)) := by
      rw [← h7]
      show BitVec.ofBool (_ == _) = _
      refine congrArg BitVec.ofBool ?_
      rw [beq_eq_decide]
      exact decide_eq_decide.mpr BitVec.toNat_inj.symm
    rw [hr, hb, Consts.select_ofBool, Consts.top, h.1]
    exact (Select.masked_succ (ns := ns) ⟨t.val, ht⟩ x).symm
  · intro s hs
    have hr : (selRound p t st).2 (ix2 q ⟨s.val, by omega⟩) = Scalar.select
        (IntOp.cmpi CmpIPredicate.eq (BitVec.ofNat 32 s.val) (Scf.iv 0#32 1#32 t.val))
        (k0_pay7 p.i3 p.i2 p.i1 p.i0 st.1 (ix2 q 0)) (st.2 (ix2 q ⟨s.val, by omega⟩)) := by
      pointwise [selRound, k0_pay8]
    have hb : IntOp.cmpi CmpIPredicate.eq (BitVec.ofNat 32 s.val) (Scf.iv 0#32 1#32 t.val)
        = BitVec.ofBool (decide (s.val = t.val)) := by
      show BitVec.ofBool (_ == _) = _
      refine congrArg BitVec.ofBool ?_
      rw [beq_eq_decide]
      refine decide_eq_decide.mpr ?_
      rw [← BitVec.toNat_inj]
      have hiv : (Scf.iv 0#32 1#32 t.val).toNat = t.val := by
        unfold Scf.iv
        simp
        omega
      rw [hiv, BitVec.toNat_ofNat, Nat.mod_eq_of_lt (by omega)]
    rw [hr, hb, Consts.select_ofBool]
    by_cases e : s.val = t.val
    · rw [if_pos e, h7]
      exact congrArg ns (Fin.ext e.symm)
    · rw [if_neg e]
      exact h.2 s (by omega)

/-- What the last point writes for a query: the ten nearest slots in order. -/
theorem rounds (hN : Select.Nearest D ns) (hf : Select.Few ns) (hp : ∀ l, Step.At D q l (100352 + l.val) p) (t : Fin 10) :
    (k0_pay10 (Scf.fold (selRound p) (k0_pay4 p.v3 p.v2 p.v1 p.v0, k0_pay6)).2 (ix2 q t)).toNat = ns t := by
  have hC := cand hN hf hp
  have h := foldl_inv (selRound p) (k0_pay4 p.v3 p.v2 p.v1 p.v0, k0_pay6) (After p q ns)
    ⟨fun x => by rw [Select.masked_zero]; rfl, fun s hs => absurd hs (by omega)⟩ (fun k s hs => round_after hN hC k s hs)
  generalize Scf.fold (selRound p) (k0_pay4 p.v3 p.v2 p.v1 p.v0, k0_pay6) = st at h
  rw [← h.2 t t.isLt]
  have hr : k0_pay10 st.2 (ix2 q t) = st.2 (ix2 q ⟨t.val, by omega⟩) := by
    pointwise [k0_pay10]
  rw [hr]

end Cert.KernelIdeal.Rounds

end
-- ==== Proof.Track.lean ====
module

public import proofs.«01_k».proof.Proof.Blocks
public import proofs.«01_k».proof.Proof.Rounds
public import proofs.«01_k».proof.Proof.Frame
public import Idealize.ShloMosaic.Lib.Pipeline.ArrRel

@[expose] public section

/-! # What the lists hold from point to point, and what the run leaves in the result array -/

noncomputable section

namespace Cert.KernelIdeal.Value

open Cert.KernelIdeal Cert.KernelIdeal.Gen Cert.KernelIdeal.Body Cert.KernelIdeal.Region Cert.KernelIdeal.Blocks
open Idealize.ShloMosaic Idealize.ShloMosaic.TcCoe Idealize.SL.Sem
open Idealize.ShloMosaic.Pipeline (RDat Dat)

variable (m : (ℓ : Loc nD τ sig) → Buf (Elt Ideal) ℓ) (ρ : Dev nD → PrngReg)

/-- After `n` points, one at least, every lane holds the four nearest slots of its class among the first `2048 n`. -/
def Inv (c : Dev nD) (n : ℕ) (f4 : FV (F := Ideal) c) (f5 : FI (F := Ideal) c) : Prop :=
  0 < n → ∀ q l, Step.At (D m c q) q l (2048 * n + l.val) (Planes.load c bv bi f4 f5)

/-- What the result block holds at the end: for each query whose ten nearest slots are spread enough, these in order. -/
def R (c : Dev nD) (X : S1024x10.Idx → BitVec 32) : Prop :=
  ∀ (q : Fin 1024) (ns : Fin 10 → ℕ), Select.Nearest (D m c q) ns → Select.Few ns → ∀ t, (X (ix2 q t)).toNat = ns t

/-- The body carries the relation. -/
theorem track (c : Dev nD) : Track m c (Inv m c) (R m c) where
  zero f4 f5 h := absurd h (by omega)
  first t h1 h2 M1 w1 M2 w2 M3 w3 f1 f2 f4 f5 d e1 e2 := by
    rw [Planes.runFirst_eq]
    intro _ q l
    rw [Store.load_store0, coord_val]
    have ht : t.val = 0 := (cond1_iff t).mp h1
    refine Step.step_at t.isLt _ (fun k => dst_at m c t M1 M2 f1 f2 d e1 e2 q k) ?_
    rw [ht]
    exact Store.load0_at bv bi (D m c q) q l
  mid t h1 h2 M1 w1 M2 w2 M3 w3 f1 f2 f4 f5 d e1 e2 hI := by
    rw [Planes.runMid_eq]
    intro _ q l
    rw [Store.load_store, coord_val]
    have ht : t.val ≠ 0 := fun h => h1 ((cond1_iff t).mpr h)
    exact Step.step_at t.isLt _ (fun k => dst_at m c t M1 M2 f1 f2 d e1 e2 q k) (hI (by omega) q l)
  last t h1 h2 M1 w1 M2 w2 M3 w3 f1 f2 f4 f5 f3 d e1 e2 hI := by
    obtain ⟨p, hp, he⟩ := Planes.runLast_eq c (grid0.coords t) M1 w1 M2 w2 M3 w3 bv (Memref.isWhole_whole _) bi (Memref.isWhole_whole _)
      f1 f2 f4 f5 h1 h2 f3
    have ht : t.val = 48 := (cond2_iff t).mp h2
    have hA (q : Fin 1024) (l : Fin 256) : Step.At (D m c q) q l (2048 * (t.val + 1) + l.val) p := by
      rw [hp, coord_val]
      exact Step.step_at t.isLt _ (fun k => dst_at m c t M1 M2 f1 f2 d e1 e2 q k) (hI (by omega) q l)
    rw [he]
    refine ⟨fun _ q l => ?_, fun q ns hN hf s => ?_⟩
    · rw [Store.load_store]
      exact hA q l
    · have hw (x : S1024x10.Idx) := View.read_writes_cons_hit_of_coords M3.view f3 (Rect.unit (s := S1024x10) ![0, 0] S1024x10.size inb_S1024x10_S1024x10_0_0)
        (k0_pay10 (Scf.fold (Planes.selRound p) (k0_pay4 p.v3 p.v2 p.v1 p.v0, k0_pay6)).2) [] x x (fun a => by
          match a with
          | 0 => show (x 0).val = 0 + 1 * (x 0).val; omega
          | 1 => show (x 1).val = 0 + 1 * (x 1).val; omega)
      rw [hw]
      refine Rounds.rounds hN hf (fun l => ?_) s
      have := hA q l
      rwa [ht] at this

/-- The result array is written whole at the last point. -/
theorem whole2 (t₀ : Fin cfg0.N) (ht : t₀.val = 48) : (cfg0.win 2).WholeAt t₀ :=
  ⟨(flush0_2 t₀).mpr (by omega), fun t h => Fin.ext (by have := (flush0_2 t).mp h; have : t.val < 49 := t.isLt; omega), fun a => by
    match a with
    | 0 => exact ⟨rfl, rfl⟩
    | 1 => exact ⟨rfl, rfl⟩⟩

/-- What a run of the region leaves in the result array. -/
theorem result {r : PUnit × MemSt nD τ sig (Elt Ideal)}
    (h : RDat.FramePost cfg0 (fun c => (dat m (Inv m) c).toRRel fgt (Rl (R m) c)) (V m) r) (c : Dev nD) :
    R m c (r.2.mem ((c.tc : Thread nD τ).loc main_v1)) := by
  obtain ⟨after, hL, hA⟩ := h.exists_exact c
  have ht : (48 : ℕ) < cfg0.N := by decide
  have hw := whole2 ⟨48, ht⟩ rfl
  have hX := Dat.toRRel_leaves (h := rfl) _ (hL 2 ⟨48, ht⟩ hw.1)
  have hR : R m c (after 2 ⟨48, ht⟩) := hX rfl
  intro q ns hN hf t
  rw [← hR q ns hN hf t]
  have e := Dat.arrAt_emb_eq_after_last (((dat m (Inv m) c).toRRel fgt (Rl (R m) c)).withAfter after) 2 ⟨48, ht⟩ hw (ix2 q t)
  have e' := congrFun (hA 2) (ix2 q t)
  exact congrArg BitVec.toNat (e'.trans e)

/-- Every run of the program ends with the result array at what is selected and the arguments as launched. -/
theorem run : θ_run defs (onTc (τ := τ) (main (F := Ideal))) ⟨m, fun _ => 0, ρ⟩ (fun r => ∀ c : Dev nD,
      R m c (r.2.mem ((c.tc : Thread nD τ).loc main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨result m h.1 c, args_kept m h.1 c⟩)
    (run_main m ρ (Inv m) (R m) (track m))

end Cert.KernelIdeal.Value

end
-- ==== Proof.Sort.lean ====
module

public import proofs.«01_k».proof.Proof.Select
public import proofs.«01_k».proof.Proof.RowDist
public import proofs.«01_k».proof.Proof.Consts
public import Idealize.ShloMosaic.Lib.SortFacts

@[expose] public section

/-! # The reference's sort of a query's slots -/

noncomputable section

namespace Sorting

open Lanes Idealize.ShloMosaic

variable {n : ℕ}

/-- On a list in increasing order, the stable sort by distance is the sort by key. -/
theorem stableSort_key (D : ℕ → EReal) (R : Fin n → Fin n → Bool) (hR : ∀ a b, R a b = decide (D a < D b)) (l : List (Fin n))
    (hl : l.Pairwise (· < ·)) : stableSort R l = stableSort (fun a b : Fin n => decide (key D a < key D b)) l := by
  induction l with
  | nil => rfl
  | cons a l ih =>
    obtain ⟨ha, hl⟩ := List.pairwise_cons.1 hl
    unfold stableSort
    rw [ih hl]
    refine insertBefore_congr _ _ a _ fun b hb => ?_
    have hab : a < b := ha b ((perm_stableSort _ l).mem_iff.1 hb)
    rw [hR]
    refine decide_eq_decide.mpr ?_
    unfold key
    rw [Prod.Lex.toLex_lt_toLex]
    constructor
    · exact .inl
    · rintro (h | ⟨-, h⟩)
      · exact h
      · exact absurd h (by simp only; omega)

/-- The sorted positions are in strict key order. -/
theorem sortedFrom_key (D : ℕ → EReal) (R : Fin n → Fin n → Bool) (hR : ∀ a b, R a b = decide (D a < D b)) (i j : Fin n)
    (hij : i < j) : key D (sortedFrom R i) < key D (sortedFrom R j) := by
  have he : sortedFrom R = sortedFrom (fun a b : Fin n => decide (key D a < key D b)) := by
    funext k
    unfold sortedFrom sortPositions
    rw [List.get_of_eq (stableSort_key D R hR _ (List.pairwise_lt_finRange n))]
    rfl
  have hne : sortedFrom R i ≠ sortedFrom R j := fun h => hij.ne (sortedFrom_injective R h)
  have hno := sortedFrom_noInversion (fun a b : Fin n => decide (key D a < key D b)) (fun a b : Fin n => decide (key D a < key D b))
    (fun a b h => by simp only [decide_eq_true_eq, decide_eq_false_iff_not, not_lt] at h ⊢; exact h.le) (fun _ _ h => h)
    (fun a b c h h' => by simp only [decide_eq_false_iff_not, not_lt] at h h' ⊢; exact h'.trans h) i j hij
  rw [← he] at hno
  simp only [decide_eq_false_iff_not, not_lt] at hno
  exact lt_of_le_of_ne hno fun h => hne (Fin.ext (key_inj h))

/-- The first ten sorted positions, when their distances are below `⊤`, are the ten nearest slots. -/
theorem nearest (hn : n = 100000) (D : ℕ → EReal) (hD : ∀ m, n ≤ m → D m = ⊤) (R : Fin n → Fin n → Bool)
    (hR : ∀ a b, R a b = decide (D a < D b)) (hfin : ∀ t : Fin 10, D (sortedFrom R ⟨t.val, by omega⟩) < ⊤) :
    Select.Nearest D fun t : Fin 10 => (sortedFrom R ⟨t.val, by omega⟩).val where
  bd t := hn ▸ (sortedFrom R ⟨t.val, by omega⟩).isLt
  fin := hfin
  mono s t h := sortedFrom_key D R hR _ _ h
  least m hm hno t := by
    have hlt : m < n := by
      by_contra h
      exact absurd (hD m (by omega)) hm.ne
    obtain ⟨j, hj⟩ := sortedFrom_surjective R ⟨m, hlt⟩
    have hjt : 10 ≤ j.val := by
      by_contra h
      exact hno ⟨j.val, by omega⟩ (congrArg Fin.val hj)
    have := sortedFrom_key D R hR ⟨t.val, by omega⟩ j (by rw [Fin.lt_def]; simp only; omega)
    rwa [hj] at this

/-! ## The top ten of a row of negated distances -/

/-- The shape of one row per query, `n` entries long. -/
abbrev Row (n : ℕ) : Shape := ⟨2, ![1024, n]⟩

/-- The first ten columns of an array, at a place. -/
theorem slice_at {α : Type} (hn : 10 ≤ n) (z : (Row n).Idx → α) (h : (Row n).Slices (fun _ => 0) (Row 10)) (q : Fin 1024) (t : Fin 10) :
    extractStridedSlice (Row 10) (fun _ => 0) z h (ix2 q t) = z (ix2 q ⟨t.val, by omega⟩) := by
  refine congrArg z (funext fun d => ?_)
  match d with
  | 0 => exact Fin.ext (Nat.zero_add _)
  | 1 => exact Fin.ext (Nat.zero_add _)

/-- An index moved along its row. -/
theorem along_eq (q : Fin 1024) (u k : Fin n) : (ix2 q u).along (s := Row n) 1 k = ix2 q k := by
  funext d
  match d with
  | 0 => rfl
  | 1 => rfl

variable (x : FVec Ideal (Row n) .f32) (h : (Row n).Slices (fun _ => 0) (Row 10)) (q : Fin 1024)

/-- The order on a row's positions: by greater value. -/
def before (k k' : Fin n) : Bool := FloatOps.cmpfTotal .gt (x (ix2 q k)) (x (ix2 q k')) == 1#1

/-- The top ten of a row are the first ten positions in that order. -/
theorem topK_at (hn : 10 ≤ n) (t : Fin 10) :
    (Host.topK (Row 10) 1 (FloatOps.cmpfTotal .gt) x h).1 (ix2 q t) = x (ix2 q (sortedFrom (before x q) ⟨t.val, by omega⟩))
    ∧ (Host.topK (Row 10) 1 (FloatOps.cmpfTotal .gt) x h).2 (ix2 q t)
      = BitVec.ofNat 32 (sortedFrom (before x q) ⟨t.val, by omega⟩).val := by
  have hb (u : Fin n) : (fun k k' : Fin n => FloatOps.cmpfTotal .gt (x ((ix2 q u).along (s := Row n) 1 k))
      (x ((ix2 q u).along (s := Row n) 1 k')) == 1#1) = before x q := by
    funext k k'
    rw [along_eq, along_eq]
    rfl
  unfold Host.topK
  dsimp only
  rw [slice_at hn, slice_at hn]
  generalize (⟨t.val, by omega⟩ : Fin n) = u
  constructor
  · refine Eq.trans (b := x ((ix2 q u).along (s := Row n) 1
      (sortedFrom (fun k k' : Fin n => FloatOps.cmpfTotal .gt (x ((ix2 q u).along (s := Row n) 1 k))
        (x ((ix2 q u).along (s := Row n) 1 k')) == 1#1) u))) rfl ?_
    rw [hb]
    exact congrArg x (along_eq q u _)
  · refine Eq.trans (b := BitVec.ofNat 32 ((ix2 q u).along (s := Row n) 1
      (sortedFrom (fun k k' : Fin n => FloatOps.cmpfTotal .gt (x ((ix2 q u).along (s := Row n) 1 k))
        (x ((ix2 q u).along (s := Row n) 1 k')) == 1#1) u) 1).val) rfl ?_
    rw [hb]
    exact congrArg (fun j : (Row n).Idx => BitVec.ofNat 32 (j 1).val) (along_eq q u _)

/-- The top ten of a row of negated distances: their slots, and that these are the nearest when their distances are
    below `⊤`. -/
theorem topK_nearest (hn : n = 100000) (D : ℕ → EReal) (hD : ∀ m, n ≤ m → D m = ⊤) (hx : ∀ k : Fin n, x (ix2 q k) = -(D k.val)) :
    ∃ ns : Fin 10 → ℕ, (∀ t, (Host.topK (Row 10) 1 (FloatOps.cmpfTotal .gt) x h).1 (ix2 q t) = -(D (ns t)))
      ∧ (∀ t, (Host.topK (Row 10) 1 (FloatOps.cmpfTotal .gt) x h).2 (ix2 q t) = BitVec.ofNat 32 (ns t))
      ∧ (∀ t, ns t < 100000) ∧ ((∀ t, D (ns t) < ⊤) → Select.Nearest D ns) := by
  refine ⟨fun t => (sortedFrom (before x q) ⟨t.val, by omega⟩).val, fun t => ?_, fun t => ?_, fun t => ?_, fun hf => ?_⟩
  · rw [(topK_at x h q (by omega) t).1, hx]
  · rw [(topK_at x h q (by omega) t).2]
  · exact hn ▸ (sortedFrom (before x q) ⟨t.val, by omega⟩).isLt
  · refine nearest hn D hD _ (fun k k' => ?_) hf
    unfold before
    rw [hx, hx]
    show (BitVec.ofBool (decide (-(D k') < -(D k))) == 1#1) = _
    rw [decide_eq_decide.mpr (EReal.neg_lt_neg_iff (a := D k') (b := D k))]
    generalize decide (D k < D k') = b
    cases b <;> rfl

end Sorting

end
-- ==== Proof.Ref.lean ====
module

public import proofs.«01_k».proof.Proof.Sort
public import proofs.«01_k».proof.On_separable
public import proofs.«01_k».proof.Proof.Gen.ReferenceIdeal
public import Idealize.ShloMosaic.Lib.IndicatorCount
public import Idealize.ShloMosaic.Lib.Affine

@[expose] public section

/-! # What the reference returns for one query, and what the mask says of it -/

noncomputable section

namespace Cert.ReferenceIdeal.Ref

open Cert.ReferenceIdeal Cert.ReferenceIdeal.Gen
open Idealize.ShloMosaic

variable (a : FVec Ideal S1024x256 .f32) (y : FVec Ideal S100000x256 .f32)

/-- The distances of query `q` to every slot. -/
def D (q : Fin 1024) (m : ℕ) : EReal := slots (fun l => a (ix2 q l)) (fun n l => y (ix2 n l)) m

/-- There is no slot past the last stored row. -/
theorem D_top (q : Fin 1024) (m : ℕ) (h : 100000 ≤ m) : D a y q m = ⊤ := by
  unfold D slots
  rw [dif_neg (by omega)]

/-- The negated distances, whose ten greatest the reference takes. -/
def neg : FVec Ideal S1024x100000 .f32 := fun j => -(D a y (j 0) (j 1).val)

/-- The reference's term for the negated distances computes them. -/
theorem neg_eq :
    Host.negf (subf (addf (broadcastInDim S1024x100000 ![0, 1] bcast_S1024x1_S1024x100000_0_1 (broadcastInDim S1024x1 ![0] bcast_S1024_S1024x1_0 (Host.reduceAdd (mulf a a) (constant S_ .f32 0x00000000#32) reducesTo_S1024x256_S1024_d1 h_S_))) (broadcastInDim S1024x100000 ![0, 1] bcast_S1x100000_S1024x100000_0_1 (transpose S1x100000 [1, 0] (broadcastInDim S100000x1 ![0] bcast_S100000_S100000x1_0 (Host.reduceAdd (mulf y y) (constant S_ .f32 0x00000000#32) reducesTo_S100000x256_S100000_d1 h_S_)) transposes_S100000x1_S1x100000_1_0))) (mulf (broadcastInDim S1024x100000 ![] bcast_S_S1024x100000 (constant S_ .f32 0x40000000#32)) (Host.dotGeneral dot_S1024x256_S256x100000_S1024x100000_1_0_0_1_n_n none a (transpose S256x100000 [1, 0] y transposes_S100000x256_S256x100000_1_0))))
      = neg a y := by
  funext j
  have hd : neg a y j = -(rowDist (fun l => a (ix2 (j 0) l)) (fun l => y (ix2 (j 1) l))) := by
    exact congrArg (- ·) (dif_pos (show (j 1).val < 100000 from (j 1).isLt))
  rw [hd]
  pointwise
  rw [Consts.two]
  rfl

/-- What the top ten of query `q` are: their slots, and that these are the nearest when their distances are below `⊤`. -/
theorem top_at (h : S1024x100000.Slices (fun _ => 0) S1024x10) (q : Fin 1024) :
    ∃ ns : Fin 10 → ℕ, (∀ t, (Host.topK S1024x10 1 (FloatOps.cmpfTotal .gt) (neg a y) h).1 (ix2 q t) = -(D a y q (ns t)))
      ∧ (∀ t, (Host.topK S1024x10 1 (FloatOps.cmpfTotal .gt) (neg a y) h).2 (ix2 q t) = BitVec.ofNat 32 (ns t))
      ∧ (∀ t, ns t < 100000) ∧ ((∀ t, D a y q (ns t) < ⊤) → Select.Nearest (D a y q) ns) :=
  Sorting.topK_nearest (neg a y) h q rfl (D a y q) (D_top a y q) (fun _ => rfl)

end Cert.ReferenceIdeal.Ref

end
-- ==== Proof.Mask.lean ====
module

public import proofs.«01_k».proof.Proof.Ref
public import proofs.«01_k».proof.Proof.Select
public import Mathlib.Tactic.SplitIfs

@[expose] public section

/-! # What the mask says of a query -/

noncomputable section

namespace Cert.On_separable.Mask

open Cert.On_separable Idealize.ShloMosaic
open Cert.ReferenceIdeal.Ref (D neg top_at)
open Facts

variable [Facts]

/-- A fold by conjunction is set exactly where every bit is. -/
theorem fold_andi {ι : Type} (f : ι → BitVec 1) (S : Finset ι) : S.fold IntOp.andi 1#1 f = 1#1 ↔ ∀ x ∈ S, f x = 1#1 := by
  classical
  induction S using Finset.induction_on with
  | empty => simp
  | insert a S ha ih => rw [Finset.fold_insert ha, IntOp.andi_eq_one, ih, Finset.forall_mem_insert]

/-- A small count is at most four exactly where the comparison of words says so. -/
theorem sle_four {n : ℕ} (hn : n ≤ 10) : IntOp.cmpi .sle (BitVec.ofNat 32 n) 4#32 = 1#1 ↔ n ≤ 4 := by
  interval_cases n <;> decide

/-- The remainder modulo 256 of a slot's word. -/
theorem rem_eq {n k : ℕ} (hn : n < 100000) (hk : k < 100000) :
    IntOp.cmpi .eq (IntOp.remsi ArithUnit.host (BitVec.ofNat 32 n) 256#32) (IntOp.remsi ArithUnit.host (BitVec.ofNat 32 k) 256#32) = 1#1
      ↔ k % 256 = n % 256 := by
  have e (m : ℕ) (hm : m < 100000) : (IntOp.remsi ArithUnit.host (BitVec.ofNat 32 m) 256#32).toNat = m % 256 := by
    have ht : (BitVec.ofNat 32 m).toNat = m := by rw [BitVec.toNat_ofNat]; omega
    have := IntOp.toNat_remsi .host (x := BitVec.ofNat 32 m) (by rw [ht]; omega) 256 (by omega) (by omega)
    rwa [ht] at this
  show BitVec.ofBool (_ == _) = 1#1 ↔ _
  have he : IntOp.remsi ArithUnit.host (BitVec.ofNat 32 n) 256#32 = IntOp.remsi ArithUnit.host (BitVec.ofNat 32 k) 256#32
      ↔ k % 256 = n % 256 := by
    rw [← BitVec.toNat_inj, e n hn, e k hk]
    exact eq_comm
  rw [beq_eq_decide]
  by_cases h : k % 256 = n % 256
  · rw [decide_eq_true (he.mpr h)]
    simp [h]
  · rw [decide_eq_false (mt he.mp h)]
    simp [h]

/-- A comparison bit that is set. -/
theorem of_lt {b e : EReal} (h : BitVec.ofBool (decide (b < e)) = 1#1) : b < e := by
  by_contra hn
  rw [decide_eq_false hn] at h
  exact absurd h (by decide)

/-- Where the mask is set, the query's ten slots are spread over the residue classes and their distances are below `⊤`. -/
theorem part_spec (q : Fin 1024) (ns : Fin 10 → ℕ) (hns : ∀ t, ns t < 100000) (d : ℕ → EReal) (v : FVec Ideal S1024x10 .f32)
    (ind c : IVec S1024x10 32) (hv : ∀ t, v (ix2 q t) = -(d (ns t))) (hi : ∀ t, ind (ix2 q t) = BitVec.ofNat 32 (ns t))
    (hc : ∀ t, c (ix2 q t) = 256#32) (t : Fin 10) (hm : (fn_part1 (F := Ideal) v ind c).2.2.2.2 (ix2 q t) = 1#1) :
    Select.Few ns ∧ ∀ t, d (ns t) < ⊤ := by
  unfold fn_part1 at hm
  revert hm
  pointwise
  intro hm
  rw [fold_andi] at hm
  have hx (x : Fin 10) := (IntOp.andi_eq_one).mp (hm x (Finset.mem_univ x))
  constructor
  · intro x
    have h := (hx x).1
    rw [IndicatorCount.fold_addi_setWidth_eq_card] at h
    rw [sle_four ((Finset.card_le_univ _).trans (by simp))] at h
    refine le_trans (le_of_eq (congrArg Finset.card (Finset.filter_congr fun s _ => ?_))) h
    rw [hi, hi, hc, hc, rem_eq (hns x) (hns s)]
  · intro x
    have h := (hx x).2
    have h' := of_lt h
    rw [hv, Consts.bot] at h'
    rw [lt_top_iff_ne_top]
    intro e
    rw [e, EReal.neg_top] at h'
    exact absurd h' (lt_irrefl _)

variable (x0 x1 x2 x3 : FVec Ideal S1024x64 .f32) (y : FVec Ideal S100000x256 .f32)

/-- The queries: the four parts side by side. -/
def queries : FVec Ideal S1024x256 .f32 :=
  concatenate S1024x256 1 [⟨S1024x64, x0⟩, ⟨S1024x64, x1⟩, ⟨S1024x64, x2⟩, ⟨S1024x64, x3⟩] concatenates_S1024x64_S1024x64_S1024x64_S1024x64_S1024x256_d1

/-- The mask's term for the negated distances computes them. -/
theorem neg_eq (a : FVec Ideal S1024x256 .f32) :
    Host.negf (subf (addf (broadcastInDim S1024x100000 ![0, 1] bcast_S1024x1_S1024x100000_0_1 (broadcastInDim S1024x1 ![0] bcast_S1024_S1024x1_0 (Host.reduceAdd (mulf a a) (constant S_ .f32 0x00000000#32) reducesTo_S1024x256_S1024_d1 h_S_))) (broadcastInDim S1024x100000 ![0, 1] bcast_S1x100000_S1024x100000_0_1 (transpose S1x100000 [1, 0] (broadcastInDim S100000x1 ![0] bcast_S100000_S100000x1_0 (Host.reduceAdd (mulf y y) (constant S_ .f32 0x00000000#32) reducesTo_S100000x256_S100000_d1 h_S_)) transposes_S100000x1_S1x100000_1_0))) (mulf (broadcastInDim S1024x100000 ![] bcast_S_S1024x100000 (constant S_ .f32 0x40000000#32)) (Host.dotGeneral dot_S1024x256_S256x100000_S1024x100000_1_0_0_1_n_n none a (transpose S256x100000 [1, 0] y transposes_S100000x256_S256x100000_1_0))))
      = neg a y := by
  rw [← Cert.ReferenceIdeal.Ref.neg_eq a y]
  rfl

/-- Where the mask is set at a query, the reference's ten indices there are its ten nearest slots, with distances below `⊤`
    and no more than four of them in one residue class modulo 256. -/
theorem spec (h : S1024x100000.Slices (fun _ => 0) S1024x10) (q : Fin 1024) (t : Fin 10)
    (hm : (fn (F := Ideal) x0 x1 x2 x3 y).2.2.2.2 (ix2 q t) = 1#1) :
    ∃ ns : Fin 10 → ℕ, Select.Nearest (D (queries x0 x1 x2 x3) y q) ns ∧ Select.Few ns
      ∧ ∀ t, (Host.topK S1024x10 1 (FloatOps.cmpfTotal .gt) (neg (queries x0 x1 x2 x3) y) h).2 (ix2 q t) = BitVec.ofNat 32 (ns t) := by
  obtain ⟨ns, hv, hi, hb, hn⟩ := top_at (queries x0 x1 x2 x3) y h q
  have := part_spec q ns hb (D (queries x0 x1 x2 x3) y q)
    (Host.topK S1024x10 1 (FloatOps.cmpfTotal .gt) (neg (queries x0 x1 x2 x3) y) h).1
    (Host.topK S1024x10 1 (FloatOps.cmpfTotal .gt) (neg (queries x0 x1 x2 x3) y) h).2
    (broadcastInDim S1024x10 ![] bcast_S_S1024x10 (constantI S_ 32 256#32)) hv hi (fun _ => rfl) t (by
      rw [← neg_eq]
      exact hm)
  exact ⟨ns, hn this.2, this.1, hi⟩

end Cert.On_separable.Mask

end
-- ==== Proof.Algebraic.lean ====
module

public import proofs.«01_k».proof.Defs
public import proofs.«01_k».proof.Proof.Gen.On_separable
public import proofs.«01_k».proof.Proof.Gen.ReferenceIdeal.Run
public import proofs.«01_k».proof.Proof.Track
public import proofs.«01_k».proof.Proof.Mask

@[expose] public section

/-! # The kernel's results are the reference's, where the mask is set -/

noncomputable section

namespace Cert.Algebraic

open Idealize.ShloMosaic Idealize.ShloMosaic.TcCoe Idealize.SL.Sem
open Cert.KernelIdeal (nD τ sig)

attribute [local instance] Cert.KernelIdeal.Gen.facts Cert.ReferenceIdeal.Gen.facts Cert.On_separable.Gen.facts

variable (m : (ℓ : Loc nD τ sig) → Buf (Elt Ideal) ℓ) (c : Dev nD)

/-- The indices the reference returns. -/
def inds : IVec Cert.ReferenceIdeal.S1024x10 32 :=
  (Host.topK Cert.ReferenceIdeal.S1024x10 1 (FloatOps.cmpfTotal .gt)
    (Cert.ReferenceIdeal.Ref.neg (Cert.KernelIdeal.Blocks.qs m c) (Cert.KernelIdeal.Blocks.ys m c))
    Cert.ReferenceIdeal.Gen.sliceFits_S1024x100000_S1024x10).2

/-- An index of a rank-two array is its two coordinates. -/
theorem idx2 (i : (⟨2, ![1024, 10]⟩ : Shape).Idx) : ∃ (q : Fin 1024) (t : Fin 10), i = ix2 q t := by
  refine ⟨i 0, i 1, funext fun a => ?_⟩
  match a with
  | 0 => rfl
  | 1 => rfl

/-- What the last point selects is, where the mask is set, what the reference returns. -/
theorem inds_eq (X : Cert.KernelIdeal.S1024x10.Idx → BitVec 32) (hX : Cert.KernelIdeal.Value.R m c X) (i : (⟨2, ![1024, 10]⟩ : Shape).Idx)
    (hm : (Cert.On_separable.fn (F := Ideal) (m ((c.tc : Thread nD τ).loc Cert.KernelIdeal.main_arg0))
      (m ((c.tc : Thread nD τ).loc Cert.KernelIdeal.main_arg1)) (m ((c.tc : Thread nD τ).loc Cert.KernelIdeal.main_arg2))
      (m ((c.tc : Thread nD τ).loc Cert.KernelIdeal.main_arg3)) (m ((c.tc : Thread nD τ).loc Cert.KernelIdeal.main_arg4))).2.2.2.2 i = 1#1) :
    X i = inds m c i := by
  obtain ⟨q, t, rfl⟩ := idx2 i
  obtain ⟨ns, hN, hf, hi⟩ := Cert.On_separable.Mask.spec _ _ _ _ _ Cert.ReferenceIdeal.Gen.sliceFits_S1024x100000_S1024x10 q t hm
  have h := hX q ns hN hf t
  refine (BitVec.eq_of_toNat_eq ?_).trans (hi t).symm
  have := hN.bd t
  rw [h, BitVec.toNat_ofNat]
  omega

/-- The algebraic claim. -/
theorem algebraic : Cert.algebraic_KernelIdeal_ReferenceIdeal_on_separable := by
  intro m g m' g' _ hag
  refine ⟨fun c => m _, fun c => m _, fun c => m _, fun c => m _, fun c => inds m c, ?_, ?_⟩
  · refine (θ_run _ _ _).mono (fun r h c => ?_) (Cert.KernelIdeal.Value.run m g)
    obtain ⟨hR, h0, h1, h2, h3, h4⟩ := h c
    exact ⟨fun i _ => congrFun h0 i, fun i _ => congrFun h1 i, fun i _ => congrFun h2 i, fun i _ => congrFun h3 i,
      fun i hm => inds_eq m c _ hR i hm, h0, h1, h2, h3, h4⟩
  · refine (θ_run _ _ _).mono (fun r h c => ?_) (Cert.ReferenceIdeal.Value.run m' g')
    obtain ⟨h0, h1, h2, h3, hi, k0, k1, k2, k3, k4⟩ := h c
    obtain ⟨a0, a1, a2, a3, a4⟩ := hag c
    rw [a0, a1, a2, a3, a4, Cert.ReferenceIdeal.Ref.neg_eq] at hi
    exact ⟨fun i _ => congrFun (h0.trans a0) i, fun i _ => congrFun (h1.trans a1) i, fun i _ => congrFun (h2.trans a2) i,
      fun i _ => congrFun (h3.trans a3) i, fun i _ => congrFun hi i, k0, k1, k2, k3, k4⟩

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_separable
public import proofs.«01_k».proof.Proof.Frame
public import proofs.«01_k».proof.Proof.K.Frame
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The certificate's claim. -/
theorem claim : Cert.Claim := ⟨Cert.Kernel.Gen.facts, Cert.KernelIdeal.Gen.facts, Cert.ReferenceIdeal.Gen.facts, Cert.On_separable.Gen.facts,
  fun m g _ => Cert.Kernel.Region.frame_run m g,
  fun m g _ => Cert.KernelIdeal.Region.frame_run m g,
  fun m g _ => (θ_run Cert.ReferenceIdeal.defs _ _).mono (fun r h => ⟨fun c => (h c).2.2.2.2.2, sem_eq_zero_of_no_sems rfl r.2⟩)
    (Cert.ReferenceIdeal.Value.run m g),
  trivial, Cert.Algebraic.algebraic⟩

end Cert.Proof

end
